-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 [hPre_pairs : Cert.Pre_pairs.Facts] (m : (ℓ : Loc Cert.Kernel22.nD Cert.Kernel22.τ Cert.Kernel22.sig) → Buf (Elt Bits) ℓ) : Prop :=
  ∀ c : Dev Cert.Kernel22.nD,
    (Cert.Pre_pairs.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8))).1 = (fun _ => 1#1)
    ∧ (Cert.Pre_pairs.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8))).2 = (fun _ => 1#1)

def Pre_Kernel22Ideal [hPre_pairs : Cert.Pre_pairs.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_pairs.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8))).1 = (fun _ => 1#1)
    ∧ (Cert.Pre_pairs.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_pairs [hPre_pairs : Cert.Pre_pairs.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_pairs.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8))).1 = (fun _ => 1#1)
    ∧ (Cert.Pre_pairs.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] [hPre_pairs : Cert.Pre_pairs.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] [hPre_pairs : Cert.Pre_pairs.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Reference22Ideal_pre_pairs [hReference22Ideal : Cert.Reference22Ideal.Facts] [hPre_pairs : Cert.Pre_pairs.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_pairs m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v11) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] [hPre_pairs : Cert.Pre_pairs.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_pairs : Cert.Pre_pairs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22) (hPre_pairs := hPre_pairs)
    ∧ quiescent_Kernel22Ideal (hKernel22Ideal := hKernel22Ideal) (hPre_pairs := hPre_pairs)
    ∧ quiescent_Reference22Ideal (hReference22Ideal := hReference22Ideal)
    ∧ quiescent_Reference22Ideal_pre_pairs (hReference22Ideal := hReference22Ideal) (hPre_pairs := hPre_pairs)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal) (hPre_pairs := hPre_pairs)
-- ==== Pre_finite.lean ====
abbrev S8192x2048 : Shape := ⟨2, ![8192, 2048]⟩
abbrev S256x1024 : Shape := ⟨2, ![256, 1024]⟩
abbrev S8192x512 : Shape := ⟨2, ![8192, 512]⟩
abbrev S_ : Shape := ⟨0, ![]⟩
abbrev S256x512 : Shape := ⟨2, ![256, 512]⟩

class Facts : Prop where
  slices_S8192x2048_S8192x512_0_1536 : S8192x2048.Slices ![0, 1536] S8192x512
  bcast_S_S8192x512 : S_.BroadcastsInDim S8192x512 (![] : Fin 0 → Fin S8192x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S8192x2048 .f32) (main_arg1 : FVec F S256x1024 .f32) (main_arg2 : FVec F S8192x2048 .f32) : IVec S8192x512 1 × IVec S256x512 1 :=
  let main_v0 : FVec F S8192x512 .f32 := (extractStridedSlice S8192x512 ![0, 1536] · slices_S8192x2048_S8192x512_0_1536) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Pre_pairs.lean ====
abbrev S136 : Shape := ⟨1, ![136]⟩
abbrev S8192x5120 : Shape := ⟨2, ![8192, 5120]⟩
abbrev S8192x2048 : Shape := ⟨2, ![8192, 2048]⟩
abbrev S12x8192x1 : Shape := ⟨3, ![12, 8192, 1]⟩
abbrev S12x1x8192 : Shape := ⟨3, ![12, 1, 8192]⟩

class Facts : Prop where

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S8192x5120 .f32) (main_arg3 : FVec F S8192x5120 .f32) (main_arg4 : FVec F S8192x5120 .f32) (main_arg5 : FVec F S8192x2048 .f32) (main_arg6 : FVec F S12x8192x1 .f32) (main_arg7 : FVec F S12x8192x1 .f32) (main_arg8 : FVec F S12x1x8192 .f32) : IVec S136 1 × IVec S136 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  (main_v0, main_v1)
-- ==== Kernel.lean ====
abbrev S8192x2048 : Shape := ⟨2, ![8192, 2048]⟩
abbrev S256x1024 : Shape := ⟨2, ![256, 1024]⟩
abbrev S8192x512 : Shape := ⟨2, ![8192, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S256x512, .f32⟩
  | .hbm, ⟨5, _⟩ => ⟨S256x512, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x2048 : Shape := ⟨2, ![8192, 2048]⟩
abbrev S256x1024 : Shape := ⟨2, ![256, 1024]⟩
abbrev S256x512 : Shape := ⟨2, ![256, 512]⟩
abbrev S256x4x128 : Shape := ⟨3, ![256, 4, 128]⟩
abbrev S8192x512 : Shape := ⟨2, ![8192, 512]⟩
abbrev S8192x4x128 : Shape := ⟨3, ![8192, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S8192x2048, .f32⟩
  | .hbm, ⟨3, _⟩ => ⟨S256x512, .f32⟩
  | .hbm, ⟨4, _⟩ => ⟨S256x4x128, .f32⟩
  | .hbm, ⟨5, _⟩ => ⟨S256x512, .f32⟩
  | .hbm, ⟨6, _⟩ => ⟨S256x4x128, .f32⟩
  | .hbm, ⟨7, _⟩ => ⟨S8192x512, .f32⟩
  | .hbm, ⟨8, _⟩ => ⟨S8192x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S8192x512, .f32⟩
  | .hbm, ⟨82, _⟩ => ⟨S256x512, .f32⟩
  | .hbm, ⟨83, _⟩ => ⟨S256x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .bf16⟩
  | .hbm, ⟨12, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x2048, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x2048, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x2048, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S2048x8192, .f32⟩
  | .hbm, ⟨15, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x8192 : Shape := ⟨2, ![8192, 8192]⟩
abbrev S2048x8192 : Shape := ⟨2, ![2048, 8192]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S8192x8192 : Shape := ⟨2, ![8192, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x8192 : Shape := ⟨2, ![8192, 8192]⟩
abbrev S8192x2048 : Shape := ⟨2, ![8192, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S2048x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S2048x2048, .bf16⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1536 : Shape := ⟨2, ![8192, 1536]⟩
abbrev S8192x512 : Shape := ⟨2, ![8192, 512]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x2048, .bf16⟩
  | .hbm, ⟨3, _⟩ => ⟨S8192x2048, .f32⟩
  | .hbm, ⟨4, _⟩ => ⟨S8192x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1536 : Shape := ⟨2, ![8192, 1536]⟩
abbrev S8192x512 : Shape := ⟨2, ![8192, 512]⟩
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S2048x6656 : Shape := ⟨2, ![2048, 6656]⟩
abbrev S8192x6656 : Shape := ⟨2, ![8192, 6656]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 13, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x6656 : Shape := ⟨2, ![2048, 6656]⟩
abbrev S8192x6656 : Shape := ⟨2, ![8192, 6656]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x2048, .f32⟩
  | .hbm, ⟨3, _⟩ => ⟨S2048x6656, .f32⟩
  | .hbm, ⟨4, _⟩ => ⟨S8192x6656, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x2048 : Shape := ⟨2, ![8192, 2048]⟩
abbrev S2048x5120 : Shape := ⟨2, ![2048, 5120]⟩
abbrev S8192x5120 : Shape := ⟨2, ![8192, 5120]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x2048 : Shape := ⟨2, ![8192, 2048]⟩
abbrev S8192x1536 : Shape := ⟨2, ![8192, 1536]⟩
abbrev S8192x512 : Shape := ⟨2, ![8192, 512]⟩
abbrev S2048x2048 : Shape := ⟨2, ![2048, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x512, .f32⟩
  | .hbm, ⟨3, _⟩ => ⟨S8192x2048, .f32⟩
  | .hbm, ⟨4, _⟩ => ⟨S8192x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x1536 : Shape := ⟨2, ![8192, 1536]⟩
abbrev S8192x512 : Shape := ⟨2, ![8192, 512]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x512, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel15.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S2048x2048, .bf16⟩
  | .hbm, ⟨3, _⟩ => ⟨S8192x2048, .f32⟩
  | .hbm, ⟨4, _⟩ => ⟨S8192x2048, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S8192x2048 : Shape := ⟨2, ![8192, 2048]⟩
abbrev S8192x1536 : Shape := ⟨2, ![8192, 1536]⟩
abbrev S8192x512 : Shape := ⟨2, ![8192, 512]⟩
abbrev S8192x6656 : Shape := ⟨2, ![8192, 6656]⟩
abbrev S2048x6656 : Shape := ⟨2, ![2048, 6656]⟩
abbrev S1024x1024 : Shape := ⟨2, ![1024, 1024]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x512, .f32⟩
  | .hbm, ⟨6, _⟩ => ⟨S8192x6656, .f32⟩
  | .hbm, ⟨7, _⟩ => ⟨S8192x6656, .bf16⟩
  | .hbm, ⟨8, _⟩ => ⟨S2048x6656, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S8192x1536 : Shape := ⟨2, ![8192, 1536]⟩
abbrev S8192x512 : Shape := ⟨2, ![8192, 512]⟩
abbrev S8192x6656 : Shape := ⟨2, ![8192, 6656]⟩
abbrev S_ : Shape := ⟨0, ![]⟩
abbrev S2048x6656 : Shape := ⟨2, ![2048, 6656]⟩
abbrev S6656x2048 : Shape := ⟨2, ![6656, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x512, .f32⟩
  | .hbm, ⟨6, _⟩ => ⟨S8192x6656, .f32⟩
  | .hbm, ⟨7, _⟩ => ⟨S_, .f32⟩
  | .hbm, ⟨8, _⟩ => ⟨S2048x6656, .f32⟩
  | .hbm, ⟨9, _⟩ => ⟨S8192x2048, .f32⟩
  | .hbm, ⟨10, _⟩ => ⟨S8192x6656, .f32⟩
  | .hbm, ⟨11, _⟩ => ⟨S6656x2048, .f32⟩
  | .hbm, ⟨12, _⟩ => ⟨S2048x6656, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel17.lean ====
abbrev S8192x1536 : Shape := ⟨2, ![8192, 1536]⟩
abbrev S8192x512 : Shape := ⟨2, ![8192, 512]⟩
abbrev S2048x6656 : Shape := ⟨2, ![2048, 6656]⟩
abbrev S8192x2048 : Shape := ⟨2, ![8192, 2048]⟩
abbrev S8192x6656 : Shape := ⟨2, ![8192, 6656]⟩
abbrev S1024x512 : Shape := ⟨2, ![1024, 512]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S2048x6656, .bf16⟩
  | .hbm, ⟨6, _⟩ => ⟨S8192x2048, .f32⟩
  | .hbm, ⟨7, _⟩ => ⟨S8192x6656, .f32⟩
  | .hbm, ⟨8, _⟩ => ⟨S8192x6656, .bf16⟩
  | .hbm, ⟨9, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 13], ![false, false, false]⟩

def k0_cond2 (i : grid0.Coords) : BitVec 1 :=
  let arg2 : BitVec 32 := BitVec.ofNat 32 (i 2).val
  let c12_i32 : BitVec 32 := 12#32
  let v12 : BitVec 1 := Scalar.cmpi .eq arg2 c12_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1536 : Shape := ⟨2, ![8192, 1536]⟩
abbrev S8192x512 : Shape := ⟨2, ![8192, 512]⟩
abbrev S2048x6656 : Shape := ⟨2, ![2048, 6656]⟩
abbrev S8192x2048 : Shape := ⟨2, ![8192, 2048]⟩
abbrev S8192x6656 : Shape := ⟨2, ![8192, 6656]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S2048x6656, .bf16⟩
  | .hbm, ⟨6, _⟩ => ⟨S8192x2048, .f32⟩
  | .hbm, ⟨7, _⟩ => ⟨S8192x6656, .f32⟩
  | .hbm, ⟨8, _⟩ => ⟨S_, .f32⟩
  | .hbm, ⟨9, _⟩ => ⟨S8192x2048, .f32⟩
  | .hbm, ⟨10, _⟩ => ⟨S2048x6656, .f32⟩
  | .hbm, ⟨11, _⟩ => ⟨S8192x6656, .f32⟩
  | .hbm, ⟨12, _⟩ => ⟨S8192x2048, .f32⟩
  | .hbm, ⟨13, _⟩ => ⟨S8192x2048, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== Kernel18.lean ====
abbrev S8192x2048 : Shape := ⟨2, ![8192, 2048]⟩
abbrev S8192x1536 : Shape := ⟨2, ![8192, 1536]⟩
abbrev S8192x512 : Shape := ⟨2, ![8192, 512]⟩
abbrev S8192x5120 : Shape := ⟨2, ![8192, 5120]⟩
abbrev S2048x5120 : Shape := ⟨2, ![2048, 5120]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S8192x5120, .f32⟩
  | .hbm, ⟨6, _⟩ => ⟨S8192x5120, .bf16⟩
  | .hbm, ⟨7, _⟩ => ⟨S2048x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S8192x1536 : Shape := ⟨2, ![8192, 1536]⟩
abbrev S8192x512 : Shape := ⟨2, ![8192, 512]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x512, .f32⟩
  | .hbm, ⟨5, _⟩ => ⟨S8192x5120, .f32⟩
  | .hbm, ⟨6, _⟩ => ⟨S_, .f32⟩
  | .hbm, ⟨7, _⟩ => ⟨S2048x5120, .f32⟩
  | .hbm, ⟨8, _⟩ => ⟨S8192x2048, .f32⟩
  | .hbm, ⟨9, _⟩ => ⟨S8192x5120, .f32⟩
  | .hbm, ⟨10, _⟩ => ⟨S5120x2048, .f32⟩
  | .hbm, ⟨11, _⟩ => ⟨S2048x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel19.lean ====
abbrev S8192x1536 : Shape := ⟨2, ![8192, 1536]⟩
abbrev S8192x512 : Shape := ⟨2, ![8192, 512]⟩
abbrev S2048x5120 : Shape := ⟨2, ![2048, 5120]⟩
abbrev S8192x2048 : Shape := ⟨2, ![8192, 2048]⟩
abbrev S8192x5120 : Shape := ⟨2, ![8192, 5120]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x512, .f32⟩
  | .hbm, ⟨4, _⟩ => ⟨S2048x5120, .bf16⟩
  | .hbm, ⟨5, _⟩ => ⟨S8192x2048, .f32⟩
  | .hbm, ⟨6, _⟩ => ⟨S8192x5120, .f32⟩
  | .hbm, ⟨7, _⟩ => ⟨S8192x5120, .bf16⟩
  | .hbm, ⟨8, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8192x1536 : Shape := ⟨2, ![8192, 1536]⟩
abbrev S8192x512 : Shape := ⟨2, ![8192, 512]⟩
abbrev S2048x5120 : Shape := ⟨2, ![2048, 5120]⟩
abbrev S8192x2048 : Shape := ⟨2, ![8192, 2048]⟩
abbrev S8192x5120 : Shape := ⟨2, ![8192, 5120]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x512, .f32⟩
  | .hbm, ⟨4, _⟩ => ⟨S2048x5120, .bf16⟩
  | .hbm, ⟨5, _⟩ => ⟨S8192x2048, .f32⟩
  | .hbm, ⟨6, _⟩ => ⟨S8192x5120, .f32⟩
  | .hbm, ⟨7, _⟩ => ⟨S_, .f32⟩
  | .hbm, ⟨8, _⟩ => ⟨S8192x2048, .f32⟩
  | .hbm, ⟨9, _⟩ => ⟨S2048x5120, .f32⟩
  | .hbm, ⟨10, _⟩ => ⟨S8192x5120, .f32⟩
  | .hbm, ⟨11, _⟩ => ⟨S8192x2048, .f32⟩
  | .hbm, ⟨12, _⟩ => ⟨S8192x2048, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel20.lean ====
abbrev S8192x1536 : Shape := ⟨2, ![8192, 1536]⟩
abbrev S1536x1536 : Shape := ⟨2, ![1536, 1536]⟩
abbrev S1536 : Shape := ⟨1, ![1536]⟩
abbrev S1x1536 : Shape := ⟨2, ![1, 1536]⟩
abbrev S1024x768 : Shape := ⟨2, ![1024, 768]⟩
abbrev S768x768 : Shape := ⟨2, ![768, 768]⟩
abbrev S1x768 : Shape := ⟨2, ![1, 768]⟩

abbrev nBuf : Space → Nat
  | .hbm => 6
  | .vmem => 13
  | .smem => 0
  | _ => 0

abbrev bufTy : (tb : Table) → Fin (tcTables nBuf tb) → BufTy
  | .hbm, ⟨0, _⟩ => ⟨S8192x1536, .f32⟩
  | .hbm, ⟨1, _⟩ => ⟨S1536x1536, .bf16⟩
  | .hbm, ⟨2, _⟩ => ⟨S1536, .f32⟩
  | .hbm, ⟨3, _⟩ => ⟨S1x1536, .f32⟩
  | .hbm, ⟨4, _⟩ => ⟨S8192x1536, .f32⟩
  | .hbm, ⟨5, _⟩ => ⟨S8192x1536, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S1024x768, .f32⟩
  | .local _ .vmem, ⟨5, _⟩ => ⟨S1024x768, .f32⟩
  | .local _ .vmem, ⟨6, _⟩ => ⟨S1x768, .f32⟩
  | .local _ .vmem, ⟨7, _⟩ => ⟨S1x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S8192x1536 : Shape := ⟨2, ![8192, 1536]⟩
abbrev S1536x1536 : Shape := ⟨2, ![1536, 1536]⟩
abbrev S1536 : Shape := ⟨1, ![1536]⟩
abbrev S1x1536 : Shape := ⟨2, ![1, 1536]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1536, .bf16⟩
  | .hbm, ⟨2, _⟩ => ⟨S1536, .f32⟩
  | .hbm, ⟨3, _⟩ => ⟨S1536x1536, .f32⟩
  | .hbm, ⟨4, _⟩ => ⟨S8192x1536, .f32⟩
  | .hbm, ⟨5, _⟩ => ⟨S1x1536, .f32⟩
  | .hbm, ⟨6, _⟩ => ⟨S8192x1536, .f32⟩
  | .hbm, ⟨7, _⟩ => ⟨S8192x1536, .f32⟩
  | .hbm, ⟨8, _⟩ => ⟨S8192x1536, .f32⟩
  | .hbm, ⟨9, _⟩ => ⟨S8192x1536, .f32⟩
  | .hbm, ⟨10, _⟩ => ⟨S_, .f32⟩
  | .hbm, ⟨11, _⟩ => ⟨S8192x1536, .f32⟩
  | .hbm, ⟨12, _⟩ => ⟨S8192x1536, .f32⟩
  | .hbm, ⟨13, _⟩ => ⟨S_, .f32⟩
  | .hbm, ⟨14, _⟩ => ⟨S8192x1536, .f32⟩
  | .hbm, ⟨15, _⟩ => ⟨S8192x1536, .f32⟩
  | .hbm, ⟨16, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel21.lean ====
abbrev S8192x1536 : Shape := ⟨2, ![8192, 1536]⟩
abbrev S1536x1536 : Shape := ⟨2, ![1536, 1536]⟩
abbrev S1024x768 : Shape := ⟨2, ![1024, 768]⟩
abbrev S768x768 : Shape := ⟨2, ![768, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1536x1536, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x768, .f32⟩
  | .local _ .vmem, ⟨5, _⟩ => ⟨S768x768, .f32⟩
  | .local _ .vmem, ⟨6, _⟩ => ⟨S768x768, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1536 : Shape := ⟨2, ![8192, 1536]⟩
abbrev S_ : Shape := ⟨0, ![]⟩
abbrev S1536x1536 : Shape := ⟨2, ![1536, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S_, .f32⟩
  | .hbm, ⟨3, _⟩ => ⟨S1536x1536, .f32⟩
  | .hbm, ⟨4, _⟩ => ⟨S8192x1536, .f32⟩
  | .hbm, ⟨5, _⟩ => ⟨S1536x1536, .f32⟩
  | .hbm, ⟨6, _⟩ => ⟨S1536x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S136 : Shape := ⟨1, ![136]⟩
abbrev S8192x5120 : Shape := ⟨2, ![8192, 5120]⟩
abbrev S8192x2048 : Shape := ⟨2, ![8192, 2048]⟩
abbrev S12x8192x1 : Shape := ⟨3, ![12, 8192, 1]⟩
abbrev S12x1x8192 : Shape := ⟨3, ![12, 1, 8192]⟩
abbrev S512x256 : Shape := ⟨2, ![512, 256]⟩
abbrev S1 : Shape := ⟨1, ![1]⟩
abbrev S2x512x1 : Shape := ⟨3, ![2, 512, 1]⟩
abbrev S2x1x512 : Shape := ⟨3, ![2, 1, 512]⟩
abbrev S512x128 : Shape := ⟨2, ![512, 128]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 16
  | .smem => 2
  | _ => 0

abbrev bufTy : (tb : Table) → Fin (tcTables nBuf tb) → BufTy
  | .hbm, ⟨0, _⟩ => ⟨S8192x5120, .f32⟩
  | .hbm, ⟨1, _⟩ => ⟨S8192x5120, .f32⟩
  | .hbm, ⟨2, _⟩ => ⟨S8192x5120, .f32⟩
  | .hbm, ⟨3, _⟩ => ⟨S8192x2048, .f32⟩
  | .hbm, ⟨4, _⟩ => ⟨S12x8192x1, .f32⟩
  | .hbm, ⟨5, _⟩ => ⟨S12x8192x1, .f32⟩
  | .hbm, ⟨6, _⟩ => ⟨S12x1x8192, .f32⟩
  | .hbm, ⟨7, _⟩ => ⟨S12x8192x1, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S2x512x1, .f32⟩
  | .local _ .vmem, ⟨9, _⟩ => ⟨S2x512x1, .f32⟩
  | .local _ .vmem, ⟨10, _⟩ => ⟨S2x512x1, .f32⟩
  | .local _ .vmem, ⟨11, _⟩ => ⟨S2x512x1, .f32⟩
  | .local _ .vmem, ⟨12, _⟩ => ⟨S2x1x512, .f32⟩
  | .local _ .vmem, ⟨13, _⟩ => ⟨S2x1x512, .f32⟩
  | .local _ .vmem, ⟨14, _⟩ => ⟨S2x512x1, .f32⟩
  | .local _ .vmem, ⟨15, _⟩ => ⟨S2x512x1, .f32⟩
  | .local _ .smem, ⟨0, _⟩ => ⟨S136, .i32⟩
  | .local _ .smem, ⟨1, _⟩ => ⟨S136, .i32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v3 : BitVec 32) : BitVec 1 :=
  let c0_i32 : BitVec 32 := 0#32
  let v4 : BitVec 1 := Scalar.cmpi .eq v3 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .ne v3 v1
  let v8 : BitVec 32 := Scalar.extui v7
  let c0_i32_1 : BitVec 32 := 0#32
  let v9 : BitVec 1 := Scalar.cmpi .ne v8 c0_i32_1
  v9

def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c6_i32 : BitVec 32 := 6#32
  let v2 : BitVec 32 := Scalar.addi c6_i32 arg0
  let c0_i32 : BitVec 32 := 0#32
  ![v1.toNat, v2.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c12_i32 : BitVec 32 := 12#32
  let v2 : BitVec 32 := Scalar.addi c12_i32 arg0
  let c0_i32 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S136 : Shape := ⟨1, ![136]⟩
abbrev S8192x5120 : Shape := ⟨2, ![8192, 5120]⟩
abbrev S8192x2048 : Shape := ⟨2, ![8192, 2048]⟩
abbrev S12x8192x1 : Shape := ⟨3, ![12, 8192, 1]⟩
abbrev S12x1x8192 : Shape := ⟨3, ![12, 1, 8192]⟩
abbrev S8192x1536 : Shape := ⟨2, ![8192, 1536]⟩
abbrev S8192x12x128 : Shape := ⟨3, ![8192, 12, 128]⟩
abbrev S12x8192x128 : Shape := ⟨3, ![12, 8192, 128]⟩
abbrev S12x8192 : Shape := ⟨2, ![12, 8192]⟩
abbrev S12x8192x8192 : Shape := ⟨3, ![12, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 53
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S8192x5120, .f32⟩
  | .hbm, ⟨3, _⟩ => ⟨S8192x5120, .f32⟩
  | .hbm, ⟨4, _⟩ => ⟨S8192x5120, .f32⟩
  | .hbm, ⟨5, _⟩ => ⟨S8192x2048, .f32⟩
  | .hbm, ⟨6, _⟩ => ⟨S12x8192x1, .f32⟩
  | .hbm, ⟨7, _⟩ => ⟨S12x8192x1, .f32⟩
  | .hbm, ⟨8, _⟩ => ⟨S12x1x8192, .f32⟩
  | .hbm, ⟨9, _⟩ => ⟨S8192x1536, .f32⟩
  | .hbm, ⟨10, _⟩ => ⟨S8192x12x128, .f32⟩
  | .hbm, ⟨11, _⟩ => ⟨S12x8192x128, .f32⟩
  | .hbm, ⟨12, _⟩ => ⟨S8192x1536, .f32⟩
  | .hbm, ⟨13, _⟩ => ⟨S8192x12x128, .f32⟩
  | .hbm, ⟨14, _⟩ => ⟨S12x8192x128, .f32⟩
  | .hbm, ⟨15, _⟩ => ⟨S8192x1536, .f32⟩
  | .hbm, ⟨16, _⟩ => ⟨S8192x12x128, .f32⟩
  | .hbm, ⟨17, _⟩ => ⟨S12x8192x128, .f32⟩
  | .hbm, ⟨18, _⟩ => ⟨S8192x1536, .f32⟩
  | .hbm, ⟨19, _⟩ => ⟨S8192x12x128, .f32⟩
  | .hbm, ⟨20, _⟩ => ⟨S12x8192x128, .f32⟩
  | .hbm, ⟨21, _⟩ => ⟨S12x8192, .f32⟩
  | .hbm, ⟨22, _⟩ => ⟨S12x8192, .f32⟩
  | .hbm, ⟨23, _⟩ => ⟨S12x8192x8192, .f32⟩
  | .hbm, ⟨24, _⟩ => ⟨S_, .f32⟩
  | .hbm, ⟨25, _⟩ => ⟨S12x8192x8192, .f32⟩
  | .hbm, ⟨26, _⟩ => ⟨S12x8192x8192, .f32⟩
  | .hbm, ⟨27, _⟩ => ⟨S12x8192x1, .f32⟩
  | .hbm, ⟨28, _⟩ => ⟨S12x8192x8192, .f32⟩
  | .hbm, ⟨29, _⟩ => ⟨S12x8192x8192, .f32⟩
  | .hbm, ⟨30, _⟩ => ⟨S12x1x8192, .f32⟩
  | .hbm, ⟨31, _⟩ => ⟨S12x8192x8192, .f32⟩
  | .hbm, ⟨32, _⟩ => ⟨S12x8192x8192, .f32⟩
  | .hbm, ⟨33, _⟩ => ⟨S8192, .i32⟩
  | .hbm, ⟨34, _⟩ => ⟨S8192x1, .i32⟩
  | .hbm, ⟨35, _⟩ => ⟨S8192, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S12x8192x8192, .i1⟩
  | .hbm, ⟨43, _⟩ => ⟨S12x8192x8192, .f32⟩
  | .hbm, ⟨44, _⟩ => ⟨S12x8192x8192, .f32⟩
  | .hbm, ⟨45, _⟩ => ⟨S12x8192x8192, .f32⟩
  | .hbm, ⟨46, _⟩ => ⟨S12x8192x8192, .f32⟩
  | .hbm, ⟨47, _⟩ => ⟨S12x8192x8192, .f32⟩
  | .hbm, ⟨48, _⟩ => ⟨S12x8192x8192, .f32⟩
  | .hbm, ⟨49, _⟩ => ⟨S12x8192x8192, .f32⟩
  | .hbm, ⟨50, _⟩ => ⟨S_, .f32⟩
  | .hbm, ⟨51, _⟩ => ⟨S12x8192, .f32⟩
  | .hbm, ⟨52, _⟩ => ⟨S12x8192x1, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Relu.lean ====
/-
  The derivative of the square of the ReLU over the extended reals, read off the square itself.
-/
module

public import Idealize.ShloMosaic.Lib.Pipeline.ValueKit

@[expose] public section

noncomputable section

namespace Cert.Relu

open Idealize.ShloMosaic

theorem two : Ideal.ofBits .f32 0x40000000#32 = (2 : EReal) := by
  simp [Ideal.ofBits, Ideal.ieee, -EReal.coe_mul]
  norm_num
  rfl

/-- The root of the square of a ReLU is the ReLU. -/
theorem sqrt_relu (u : EReal) : Ideal.sqrt (max u 0 * max u 0) = max u 0 := by
  induction u with
  | bot =>
    have h := Ideal.sqrt_coe (r := 0)
    simp only [EReal.coe_zero, lt_self_iff_false, if_false, Real.sqrt_zero] at h
    simp [h]
  | top => simp
  | coe r =>
    have h : max (r : EReal) 0 = ((max r 0 : ℝ) : EReal) := by norm_cast
    have p : 0 ≤ max r 0 := le_max_right _ _
    rw [h, ← EReal.coe_mul, Ideal.sqrt_coe, if_neg (not_lt.mpr (mul_nonneg p p)), Real.sqrt_mul_self p]

/-- Where the argument is not positive the ReLU's factor makes the product zero, whatever the other factor is. -/
theorem mul_relu (d u : EReal) : d * (2 * max u 0) = if 0 < u then d * (2 * max u 0) else 0 := by
  split
  · rfl
  · rename_i h
    rw [max_eq_right (not_lt.mp h), mul_zero, mul_zero]

end Cert.Relu

end
-- ==== Proof.Ddown.lean ====
/-
  The gradient of the squared-ReLU block at its first product, `dh · w_downᵀ` times the derivative of the square of the
  ReLU: the kernel reads the derivative `2 · relu u` off the saved square, as `2 · √(relu u)²`. Each block of the result
  adds up two products of blocks over the 2048 model columns.
-/
module

public import proofs.«01_k».proof.Proof.Gen.Kernel2Ideal.Value
public import proofs.«01_k».proof.Proof.Gen.Reference2Ideal.Run
public import Idealize.ShloMosaic.Lib.Claim
public import proofs.«01_k».proof.Proof.Relu
public import Idealize.ShloMosaic.Lib.Pipeline.ValueKit
public import Idealize.ShloMosaic.Lib.Pipeline.ReadBack

@[expose] public section

set_option maxRecDepth 16384

noncomputable section

namespace Cert.Reference2Ideal.Ddown

open Cert.Reference2Ideal Cert.Reference2Ideal.Gen Idealize.ShloMosaic

/-- The first product, its ReLU, the gradient arriving at the square, and the reference's array. -/
def first (a : FVec Ideal S8192x2048 .bf16) (w : FVec Ideal S2048x8192 .bf16) : FVec Ideal S8192x8192 .f32 :=
  Host.dotGeneral (F := Ideal) dot_S8192x2048_S2048x8192_S8192x8192_1_0_0_1_n_n none (extf .f32 a bitsLt_bf16_f32) (extf .f32 w bitsLt_bf16_f32)

def relu (a : FVec Ideal S8192x2048 .bf16) (w : FVec Ideal S2048x8192 .bf16) : FVec Ideal S8192x8192 .f32 :=
  maximumf (first a w) (broadcastInDim S8192x8192 ![] bcast_S_S8192x8192 (constant S_ .f32 0x00000000#32))

def back (v : FVec Ideal S8192x2048 .bf16) (x : FVec Ideal S8192x2048 .bf16) : FVec Ideal S8192x8192 .f32 :=
  Host.dotGeneral (F := Ideal) dot_S8192x2048_S8192x2048_S8192x8192_1_1_0_0_n_n none (extf .f32 x bitsLt_bf16_f32) (extf .f32 v bitsLt_bf16_f32)

def out (a : FVec Ideal S8192x2048 .bf16) (w : FVec Ideal S2048x8192 .bf16) (v : FVec Ideal S8192x2048 .bf16) (x : FVec Ideal S8192x2048 .bf16) : FVec Ideal S8192x8192 .bf16 :=
  truncf .bf16 (select (cmpf .ogt (first a w) (broadcastInDim S8192x8192 ![] bcast_S_S8192x8192 (constant S_ .f32 0x00000000#32)))
    (mulf (back v x) (mulf (broadcastInDim S8192x8192 ![] bcast_S_S8192x8192 (constant S_ .f32 0x40000000#32)) (relu a w)))
    (broadcastInDim S8192x8192 ![] bcast_S_S8192x8192 (constant S_ .f32 0x00000000#32))) bitsLt_bf16_f32

theorem relu_at (a : FVec Ideal S8192x2048 .bf16) (w : FVec Ideal S2048x8192 .bf16) (j : S8192x8192.Idx) : relu a w j = max (first a w j) 0 := by
  pointwise [relu]

theorem back_at (v : FVec Ideal S8192x2048 .bf16) (x : FVec Ideal S8192x2048 .bf16) (j : S8192x8192.Idx) :
    back v x j = ∑ k : Fin 2048, x (ix2 (j 0) k) * v (ix2 (j 1) k) := by
  pointwise [back]

theorem out_at (a : FVec Ideal S8192x2048 .bf16) (w : FVec Ideal S2048x8192 .bf16) (v : FVec Ideal S8192x2048 .bf16) (x : FVec Ideal S8192x2048 .bf16) (j : S8192x8192.Idx) :
    out a w v x j = (∑ k : Fin 2048, x (ix2 (j 0) k) * v (ix2 (j 1) k)) * (2 * Ideal.sqrt (relu a w j * relu a w j)) := by
  rw [← back_at, relu_at, Cert.Relu.sqrt_relu, Cert.Relu.mul_relu]
  pointwise [out, relu]
  rw [Cert.Relu.two]

end Cert.Reference2Ideal.Ddown

namespace Cert.Kernel2Ideal.Ddown

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 16, t.val % 2] ∧ win0_1.index t = ![t.val / 2 % 8, t.val % 2]
    ∧ win0_3.index t = ![t.val / 16, t.val / 2 % 8] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 (j 1) k) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 (j 1) k) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; frame_out; rw [add_at, zero_at])
    (fun t h j => by
      rw [outsAt0_B m c t h (by omega)]; frame_out; rw [add_at]; simp only [read_unread_whole])
    t h j, zero_add]

/-- The write-back multiplies the accumulator by twice the root of the saved block. -/
theorem epi_at (acc : Vec Ideal S1024x1024 .f32) (x : Vec Ideal S1024x1024 .bf16) (j) :
    k0_pay3 (F := Ideal) acc x j = acc j * (2 * Ideal.sqrt (x j)) := by
  pointwise [k0_pay3]
  rw [Cert.Relu.two]

theorem out_at (c : Dev nD) (t : Fin cfg0.N) (h : t.val % 2 = 1) (j : S1024x1024.Idx) :
    (outsAt0 m c t.val t.isLt).1 j = (outsAt0 m c t.val t.isLt).2 j * (2 * Ideal.sqrt ((show Vec Ideal S1024x1024 .bf16 from iblk m c 2 t) j)) := by
  rw [outsAt0_B m c t (by omega) h]
  frame_out
  rw [epi_at]

/-- What the host lines before the call compute: the squared ReLU of the first product. -/
def act (c : Dev nD) : FVec Ideal S8192x8192 .bf16 :=
  truncf .bf16 (mulf (maximumf (Host.dotGeneral (F := Ideal) dot_S8192x2048_S2048x8192_S8192x8192_1_0_0_1_n_n none (extf .f32 (m ((c : Thread nD τ).loc main_arg0)) bitsLt_bf16_f32) (extf .f32 (m ((c : Thread nD τ).loc main_arg1)) bitsLt_bf16_f32)) (broadcastInDim S8192x8192 ![] bcast_S_S8192x8192 (constant S_ .f32 0x00000000#32)))
    (maximumf (Host.dotGeneral (F := Ideal) dot_S8192x2048_S2048x8192_S8192x8192_1_0_0_1_n_n none (extf .f32 (m ((c : Thread nD τ).loc main_arg0)) bitsLt_bf16_f32) (extf .f32 (m ((c : Thread nD τ).loc main_arg1)) bitsLt_bf16_f32)) (broadcastInDim S8192x8192 ![] bcast_S_S8192x8192 (constant S_ .f32 0x00000000#32)))) bitsLt_bf16_f32

theorem V_act (c : Dev nD) : V m c main_v5 = act m c := by
  entry_read
  rfl

theorem act_eq (c : Dev nD) (j) : act m c j = Cert.Reference2Ideal.Ddown.relu (m ((c : Thread nD τ).loc main_arg0)) (m ((c : Thread nD τ).loc main_arg1)) j
    * Cert.Reference2Ideal.Ddown.relu (m ((c : Thread nD τ).loc main_arg0)) (m ((c : Thread nD τ).loc main_arg1)) j := rfl

theorem idx2 : ∀ t : Fin cfg0.N, win0_2.index t = ![t.val / 16, t.val / 2 % 8] :=
  (by decide +kernel : ∀ t : Fin grid0.N, _)

theorem final (c : Dev nD) : (dats m 0 c).arrAt 3 cfg0.N
    = Cert.Reference2Ideal.Ddown.out (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  have h := (flush0_3 t).mp hf
  blk_simp
  rw [after0_3, out_at m c t h, scratch_at m c t h, Cert.Reference2Ideal.Ddown.out_at, ← act_eq]
  refine congr (congrArg (HMul.hMul (α := EReal)) ?_) (congrArg (fun e => (2 : EReal) * Ideal.sqrt e) ?_)
  · refine Fin.sum_mul_add_congr fun s k hl => ?_
    refine congr (congrArg (HMul.hMul (α := EReal)) ?_) ?_
    · refine (congrFun (V_main_arg3 m c) _).trans (congrArg (m ((c : Thread nD τ).loc main_arg3)) ?_)
      blk_ext [idx t, idx ⟨_, Pipeline.run_point_lt_of_flush t h s⟩]
    · refine (congrFun (V_main_arg2 m c) _).trans (congrArg (m ((c : Thread nD τ).loc main_arg2)) ?_)
      blk_ext [idx t, idx ⟨_, Pipeline.run_point_lt_of_flush t h s⟩]
  · refine (congrFun (V_act m c) _).trans (congrArg (act m c) ?_)
    blk_ext [idx t, idx2 t]

end Cert.Kernel2Ideal.Ddown

end
-- ==== Proof.Dwdown.lean ====
/-
  The gradient of the squared-ReLU block at its second weight, `actᵀ · dh`, `act` the squared ReLU of the first product:
  each block of the result adds up eight products of blocks over the 8192 positions.
-/
module

public import proofs.«01_k».proof.Proof.Gen.Kernel3Ideal.Value
public import proofs.«01_k».proof.Proof.Gen.Reference3Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference3Ideal.Dwdown

open Cert.Reference3Ideal Cert.Reference3Ideal.Gen Idealize.ShloMosaic

/-- The ReLU of the first product, its square, and the reference's array. -/
abbrev relu (a : FVec Ideal S8192x2048 .bf16) (w : FVec Ideal S2048x8192 .bf16) : FVec Ideal S8192x8192 .f32 :=
  maximumf (Host.dotGeneral (F := Ideal) dot_S8192x2048_S2048x8192_S8192x8192_1_0_0_1_n_n none (extf .f32 a bitsLt_bf16_f32) (extf .f32 w bitsLt_bf16_f32)) (broadcastInDim S8192x8192 ![] bcast_S_S8192x8192 (constant S_ .f32 0x00000000#32))

def act (a : FVec Ideal S8192x2048 .bf16) (w : FVec Ideal S2048x8192 .bf16) : FVec Ideal S8192x8192 .f32 :=
  mulf (relu a w) (relu a w)

abbrev out (a : FVec Ideal S8192x2048 .bf16) (w : FVec Ideal S2048x8192 .bf16) (x : FVec Ideal S8192x2048 .bf16) : FVec Ideal S8192x2048 .f32 :=
  transpose S8192x2048 [1, 0] (Host.dotGeneral (F := Ideal) dot_S8192x2048_S8192x8192_S2048x8192_0_0_1_1_n_n none (extf .f32 x bitsLt_bf16_f32) (act a w)) transposes_S2048x8192_S8192x2048_1_0

theorem out_at (a : FVec Ideal S8192x2048 .bf16) (w : FVec Ideal S2048x8192 .bf16) (x : FVec Ideal S8192x2048 .bf16) (j : S8192x2048.Idx) :
    out a w x j = ∑ k : Fin 8192, act a w (ix2 k (j 0)) * x (ix2 k (j 1)) := by
  pointwise [out]
  refine Finset.sum_congr rfl fun k _ => mul_comm _ _

end Cert.Reference3Ideal.Dwdown

namespace Cert.Kernel3Ideal.Dwdown

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

/-- What the host lines before the call compute: the squared ReLU of the first product. -/
def act (c : Dev nD) : FVec Ideal S8192x8192 .bf16 :=
  truncf .bf16 (mulf (maximumf (Host.dotGeneral (F := Ideal) dot_S8192x2048_S2048x8192_S8192x8192_1_0_0_1_n_n none (extf .f32 (m ((c : Thread nD τ).loc main_arg0)) bitsLt_bf16_f32) (extf .f32 (m ((c : Thread nD τ).loc main_arg1)) bitsLt_bf16_f32)) (broadcastInDim S8192x8192 ![] bcast_S_S8192x8192 (constant S_ .f32 0x00000000#32)))
    (maximumf (Host.dotGeneral (F := Ideal) dot_S8192x2048_S2048x8192_S8192x8192_1_0_0_1_n_n none (extf .f32 (m ((c : Thread nD τ).loc main_arg0)) bitsLt_bf16_f32) (extf .f32 (m ((c : Thread nD τ).loc main_arg1)) bitsLt_bf16_f32)) (broadcastInDim S8192x8192 ![] bcast_S_S8192x8192 (constant S_ .f32 0x00000000#32)))) bitsLt_bf16_f32

theorem V_act (c : Dev nD) : V m c main_v5 = act m c := by
  entry_read
  rfl

theorem act_eq (c : Dev nD) : act m c = Cert.Reference3Ideal.Dwdown.act (m ((c : Thread nD τ).loc main_arg0)) (m ((c : Thread nD τ).loc main_arg1)) := rfl

theorem final (c : Dev nD) : (dats m 0 c).arrAt 2 cfg0.N
    = Cert.Reference3Ideal.Dwdown.out (m ((c : Thread nD τ).loc main_arg0)) (m ((c : Thread nD τ).loc main_arg1)) (m ((c : Thread nD τ).loc main_arg2)) := by
  refine (dats m 0 c).arrAt_eq_of_covers 2 _ (by decide +kernel) fun t hf y => ?_
  have h := (flush0_2 t).mp hf
  blk_simp
  rw [after0_2, out_at m c t h, scratch_at m c t h, Cert.Reference3Ideal.Dwdown.out_at, ← act_eq]
  refine Fin.sum_mul_add_congr fun s k hl => ?_
  refine congr (congrArg (HMul.hMul (α := EReal)) ?_) ?_
  · refine (congrFun (V_act m c) _).trans (congrArg (act m c) ?_)
    blk_ext [idx t, idx ⟨_, Pipeline.run_point_lt_of_flush t h s⟩]
  · refine (congrFun (V_main_arg2 m c) _).trans (congrArg (m ((c : Thread nD τ).loc main_arg2)) ?_)
    blk_ext [idx t, idx ⟨_, Pipeline.run_point_lt_of_flush t h s⟩]

end Cert.Kernel3Ideal.Dwdown

end
-- ==== Proof.Dwup.lean ====
/-
  The gradient of the squared-ReLU block at its first weight, `a2ᵀ · du`: each block of the result adds up eight products
  of blocks over the 8192 positions.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.Reference4Ideal.Dwup

open Cert.Reference4Ideal Cert.Reference4Ideal.Gen Idealize.ShloMosaic

/-- The reference's array, and its entries as sums over the positions. -/
abbrev out (x : FVec Ideal S8192x2048 .bf16) (y : FVec Ideal S8192x8192 .bf16) : FVec Ideal S2048x8192 .f32 :=
  transpose S2048x8192 [1, 0] (Host.dotGeneral (F := Ideal) dot_S8192x8192_S8192x2048_S8192x2048_0_0_1_1_n_n none (extf .f32 y bitsLt_bf16_f32) (extf .f32 x bitsLt_bf16_f32)) transposes_S8192x2048_S2048x8192_1_0

theorem out_at (x : FVec Ideal S8192x2048 .bf16) (y : FVec Ideal S8192x8192 .bf16) (j : S2048x8192.Idx) :
    out x y j = ∑ k : Fin 8192, x (ix2 k (j 0)) * y (ix2 k (j 1)) := by
  pointwise [out]
  refine Finset.sum_congr rfl fun k _ => mul_comm _ _

end Cert.Reference4Ideal.Dwup

namespace Cert.Kernel4Ideal.Dwup

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 64] ∧ win0_1.index t = ![t.val % 8, t.val / 8 % 8]
    ∧ win0_2.index t = ![t.val / 64, t.val / 8 % 8] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference4Ideal.Dwup.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference4Ideal.Dwup.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel4Ideal.Dwup

end
-- ==== Proof.Dup.lean ====
/-
  The gradient of the squared-ReLU block at its input, `du · w_upᵀ`: each block of the result adds up eight products of
  blocks over the 8192 hidden columns.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Reference5Ideal.Dup

open Cert.Reference5Ideal Cert.Reference5Ideal.Gen Idealize.ShloMosaic

/-- The reference's array, and its entries as sums over the hidden columns. -/
abbrev out (x : FVec Ideal S8192x8192 .bf16) (y : FVec Ideal S2048x8192 .bf16) : FVec Ideal S8192x2048 .f32 :=
  Host.dotGeneral (F := Ideal) dot_S8192x8192_S2048x8192_S8192x2048_1_1_0_0_n_n none (extf .f32 x bitsLt_bf16_f32) (extf .f32 y bitsLt_bf16_f32)

theorem out_at (x : FVec Ideal S8192x8192 .bf16) (y : FVec Ideal S2048x8192 .bf16) (j : S8192x2048.Idx) :
    out x y j = ∑ k : Fin 8192, x (ix2 (j 0) k) * y (ix2 (j 1) k) := by
  pointwise [out]

end Cert.Reference5Ideal.Dup

namespace Cert.Kernel5Ideal.Dup

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 16, t.val % 8] ∧ win0_1.index t = ![t.val / 8 % 2, t.val % 8]
    ∧ win0_2.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 (j 1) k) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 (j 0) k)
          * (show Vec Ideal S1024x1024 .bf16 from iblk m c 1 ⟨8 * (t.val / 8) + s.val, Pipeline.run_point_lt_of_flush t h s⟩) (ix2 (j 1) k) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference5Ideal.Dup.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference5Ideal.Dup.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel5Ideal.Dup

end
-- ==== Proof.Up.lean ====
/-
  The squared-ReLU block's first product and its activation, `(relu (a2 · w_up))²`: each block adds up two products of
  blocks over the model columns, and the write-back squares the ReLU of the sum.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Reference6Ideal.Up

open Cert.Reference6Ideal Cert.Reference6Ideal.Gen Idealize.ShloMosaic

/-- The product, and the reference's array: the square of its ReLU. -/
def prod (p : FVec Ideal S8192x2048 .bf16) (q : FVec Ideal S2048x8192 .bf16) : FVec Ideal S8192x8192 .f32 :=
  Host.dotGeneral (F := Ideal) dot_S8192x2048_S2048x8192_S8192x8192_1_0_0_1_n_n none (extf .f32 p bitsLt_bf16_f32) (extf .f32 q bitsLt_bf16_f32)

def out (p : FVec Ideal S8192x2048 .bf16) (q : FVec Ideal S2048x8192 .bf16) : FVec Ideal S8192x8192 .bf16 :=
  truncf .bf16 (mulf (maximumf (prod p q) (broadcastInDim S8192x8192 ![] bcast_S_S8192x8192 (constant S_ .f32 0x00000000#32))) (maximumf (prod p q) (broadcastInDim S8192x8192 ![] bcast_S_S8192x8192 (constant S_ .f32 0x00000000#32)))) bitsLt_bf16_f32

theorem prod_at (p : FVec Ideal S8192x2048 .bf16) (q : FVec Ideal S2048x8192 .bf16) (j : S8192x8192.Idx) :
    prod p q j = ∑ k : Fin 2048, p (ix2 (j 0) k) * q (ix2 k (j 1)) := by
  pointwise [prod]

theorem out_at (p : FVec Ideal S8192x2048 .bf16) (q : FVec Ideal S2048x8192 .bf16) (j : S8192x8192.Idx) :
    out p q j = max (∑ k : Fin 2048, p (ix2 (j 0) k) * q (ix2 k (j 1))) 0 * max (∑ k : Fin 2048, p (ix2 (j 0) k) * q (ix2 k (j 1))) 0 := by
  rw [← prod_at]
  pointwise [out]

end Cert.Reference6Ideal.Up

namespace Cert.Kernel6Ideal.Up

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 16, t.val % 2] ∧ win0_1.index t = ![t.val % 2, t.val / 2 % 8]
    ∧ win0_2.index t = ![t.val / 16, t.val / 2 % 8] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 k (j 1)) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- The write-back squares the ReLU of the accumulator. -/
theorem epi_at (acc : Vec Ideal S1024x1024 .f32) (j) : k0_pay3 (F := Ideal) acc j = max (acc j) 0 * max (acc j) 0 := by
  pointwise [k0_pay3]

theorem out_at (c : Dev nD) (t : Fin cfg0.N) (h : t.val % 2 = 1) (j : S1024x1024.Idx) :
    (outsAt0 m c t.val t.isLt).1 j = max ((outsAt0 m c t.val t.isLt).2 j) 0 * max ((outsAt0 m c t.val t.isLt).2 j) 0 := by
  rw [outsAt0_B m c t (by omega) h]
  frame_out
  rw [epi_at]

theorem final (c : Dev nD) : (dats m 0 c).arrAt 2 cfg0.N
    = Cert.Reference6Ideal.Up.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference6Ideal.Up.out_at]
  refine congrArg (fun e : EReal => max e 0 * max e 0) ?_
  refine Fin.sum_mul_add_congr fun s k hl => ?_
  refine congr (congrArg (HMul.hMul (α := EReal)) ?_) ?_ <;> blk_ext [iblk, V, idx t, idx ⟨_, Pipeline.run_point_lt_of_flush t h s⟩]

end Cert.Kernel6Ideal.Up

end
-- ==== Proof.Down.lean ====
/-
  The squared-ReLU block's second product with its residual, `h1 + act · w_down`: each block adds up eight products of
  blocks over the hidden columns, and the write-back adds the residual.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.Reference7Ideal.Down

open Cert.Reference7Ideal Cert.Reference7Ideal.Gen Idealize.ShloMosaic

/-- The product, and the reference's array: the array added to it. -/
def prod (p : FVec Ideal S8192x8192 .bf16) (q : FVec Ideal S8192x2048 .bf16) (r : FVec Ideal S8192x2048 .f32) : FVec Ideal S8192x2048 .f32 :=
  Host.dotGeneral (F := Ideal) dot_S8192x8192_S8192x2048_S8192x2048_1_0_0_1_n_n none (extf .f32 p bitsLt_bf16_f32) (extf .f32 q bitsLt_bf16_f32)

def out (p : FVec Ideal S8192x8192 .bf16) (q : FVec Ideal S8192x2048 .bf16) (r : FVec Ideal S8192x2048 .f32) : FVec Ideal S8192x2048 .f32 :=
  addf r (prod p q r)

theorem prod_at (p : FVec Ideal S8192x8192 .bf16) (q : FVec Ideal S8192x2048 .bf16) (r : FVec Ideal S8192x2048 .f32) (j : S8192x2048.Idx) :
    prod p q r j = ∑ k : Fin 8192, p (ix2 (j 0) k) * q (ix2 k (j 1)) := by
  pointwise [prod]

theorem out_at (p : FVec Ideal S8192x8192 .bf16) (q : FVec Ideal S8192x2048 .bf16) (r : FVec Ideal S8192x2048 .f32) (j : S8192x2048.Idx) :
    out p q r j = (∑ k : Fin 8192, p (ix2 (j 0) k) * q (ix2 k (j 1))) + r j := by
  rw [← prod_at]
  pointwise [out]
  exact add_comm _ _

end Cert.Reference7Ideal.Down

namespace Cert.Kernel7Ideal.Down

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 16, t.val % 8] ∧ win0_1.index t = ![t.val % 8, t.val / 8 % 2]
    ∧ win0_3.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 (j 0) k)
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- The write-back adds the array's block to the accumulator. -/
theorem epi_at (acc : Vec Ideal S1024x1024 .f32) (x : Vec Ideal S1024x1024 .f32) (j) : k0_pay3 (F := Ideal) acc x j = acc j + x j := by
  pointwise [k0_pay3]

theorem out_at (c : Dev nD) (t : Fin cfg0.N) (h : t.val % 8 = 7) (j : S1024x1024.Idx) :
    (outsAt0 m c t.val t.isLt).1 j = (outsAt0 m c t.val t.isLt).2 j + (show Vec Ideal S1024x1024 .f32 from iblk m c 2 t) j := by
  rw [outsAt0_C m c t (by omega) h]
  frame_out
  rw [epi_at]

theorem idx2 : ∀ t : Fin cfg0.N, win0_2.index t = ![t.val / 16, t.val / 8 % 2] :=
  (by decide +kernel : ∀ t : Fin grid0.N, _)

theorem final (c : Dev nD) : (dats m 0 c).arrAt 3 cfg0.N
    = Cert.Reference7Ideal.Down.out (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, out_at m c t h, scratch_at m c t h, Cert.Reference7Ideal.Down.out_at]
  refine congr (congrArg (HAdd.hAdd (α := EReal)) ?_) ?_
  · refine Fin.sum_mul_add_congr fun s k hl => ?_
    refine congr (congrArg (HMul.hMul (α := EReal)) ?_) ?_ <;> blk_ext [iblk, V, idx t, idx ⟨_, Pipeline.run_point_lt_of_flush t h s⟩]
  · blk_ext [iblk, V, idx t, idx2 t]

end Cert.Kernel7Ideal.Down

end
-- ==== Proof.Out.lean ====
/-
  The projection out of a layer's mixer and memory read with its residual, `h + [mix, read] · w_out`: each block adds up
  two products of blocks, and the write-back adds the residual.
-/
module

public import proofs.«01_k».proof.Proof.Gen.Kernel8Ideal.Value
public import proofs.«01_k».proof.Proof.Gen.Reference8Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference8Ideal.Out

open Cert.Reference8Ideal Cert.Reference8Ideal.Gen Idealize.ShloMosaic

/-- The arrays side by side. -/
def cat (p : FVec Ideal S8192x1536 .f32) (q : FVec Ideal S8192x512 .f32) : FVec Ideal S8192x2048 .f32 :=
  concatenate S8192x2048 1 [⟨S8192x1536, p⟩, ⟨S8192x512, q⟩] concatenates_S8192x1536_S8192x512_S8192x2048_d1

/-- The product, and the reference's array: the array added to it. -/
def prod (p : FVec Ideal S8192x1536 .f32) (q : FVec Ideal S8192x512 .f32) (r : FVec Ideal S2048x2048 .bf16) (s : FVec Ideal S8192x2048 .f32) : FVec Ideal S8192x2048 .f32 :=
  Host.dotGeneral (F := Ideal) dot_S8192x2048_S2048x2048_S8192x2048_1_0_0_1_n_n none (cat p q) (extf .f32 r bitsLt_bf16_f32)

def out (p : FVec Ideal S8192x1536 .f32) (q : FVec Ideal S8192x512 .f32) (r : FVec Ideal S2048x2048 .bf16) (s : FVec Ideal S8192x2048 .f32) : FVec Ideal S8192x2048 .f32 :=
  addf s (prod p q r s)

theorem prod_at (p : FVec Ideal S8192x1536 .f32) (q : FVec Ideal S8192x512 .f32) (r : FVec Ideal S2048x2048 .bf16) (s : FVec Ideal S8192x2048 .f32) (j : S8192x2048.Idx) :
    prod p q r s j = ∑ k : Fin 2048, (cat p q) (ix2 (j 0) k) * r (ix2 k (j 1)) := by
  pointwise [prod]

theorem out_at (p : FVec Ideal S8192x1536 .f32) (q : FVec Ideal S8192x512 .f32) (r : FVec Ideal S2048x2048 .bf16) (s : FVec Ideal S8192x2048 .f32) (j : S8192x2048.Idx) :
    out p q r s j = (∑ k : Fin 2048, (cat p q) (ix2 (j 0) k) * r (ix2 k (j 1))) + s j := by
  rw [← prod_at]
  pointwise [out]
  exact add_comm _ _

end Cert.Reference8Ideal.Out

namespace Cert.Kernel8Ideal.Out

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 4, t.val % 2] ∧ win0_1.index t = ![t.val % 2, t.val / 2 % 2]
    ∧ win0_3.index t = ![t.val / 4, t.val / 2 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 k (j 1)) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- What the host lines before the call compute: the arrays side by side. -/
def cat (c : Dev nD) : FVec Ideal S8192x2048 .bf16 :=
  truncf .bf16 (concatenate S8192x2048 1 [⟨S8192x1536, (m ((c : Thread nD τ).loc main_arg0))⟩, ⟨S8192x512, (m ((c : Thread nD τ).loc main_arg1))⟩] concatenates_S8192x1536_S8192x512_S8192x2048_d1 : FVec Ideal S8192x2048 .f32) bitsLt_bf16_f32

theorem V_cat (c : Dev nD) : V m c main_v1 = cat m c := by
  entry_read
  rfl

theorem cat_eq (c : Dev nD) : cat m c = Cert.Reference8Ideal.Out.cat (m ((c : Thread nD τ).loc main_arg0)) (m ((c : Thread nD τ).loc main_arg1)) := rfl

/-- The write-back adds the array's block to the accumulator. -/
theorem epi_at (acc : Vec Ideal S1024x1024 .f32) (x : Vec Ideal S1024x1024 .f32) (j) : k0_pay3 (F := Ideal) acc x j = acc j + x j := by
  pointwise [k0_pay3]

theorem out_at (c : Dev nD) (t : Fin cfg0.N) (h : t.val % 2 = 1) (j : S1024x1024.Idx) :
    (outsAt0 m c t.val t.isLt).1 j = (outsAt0 m c t.val t.isLt).2 j + (show Vec Ideal S1024x1024 .f32 from iblk m c 2 t) j := by
  rw [outsAt0_B m c t (by omega) h]
  frame_out
  rw [epi_at]

theorem idx2 : ∀ t : Fin cfg0.N, win0_2.index t = ![t.val / 4, t.val / 2 % 2] :=
  (by decide +kernel : ∀ t : Fin grid0.N, _)

theorem final (c : Dev nD) : (dats m 0 c).arrAt 3 cfg0.N
    = Cert.Reference8Ideal.Out.out (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  have h := (flush0_3 t).mp hf
  blk_simp
  rw [after0_3, out_at m c t h, scratch_at m c t h, Cert.Reference8Ideal.Out.out_at, ← cat_eq]
  refine congr (congrArg (HAdd.hAdd (α := EReal)) ?_) ?_
  · refine Fin.sum_mul_add_congr fun s k hl => ?_
    refine congr (congrArg (HMul.hMul (α := EReal)) ?_) ?_
    · refine (congrFun (V_cat m c) _).trans (congrArg (cat m c) ?_)
      blk_ext [idx t, idx ⟨_, Pipeline.run_point_lt_of_flush t h s⟩]
    · refine (congrFun (V_main_arg2 m c) _).trans (congrArg (m ((c : Thread nD τ).loc main_arg2)) ?_)
      blk_ext [idx t, idx ⟨_, Pipeline.run_point_lt_of_flush t h s⟩]
  · refine (congrFun (V_main_arg3 m c) _).trans (congrArg (m ((c : Thread nD τ).loc main_arg3)) ?_)
    blk_ext [idx t, idx2 t]

end Cert.Kernel8Ideal.Out

end
-- ==== Proof.OutDproj.lean ====
/-
  The gradient of the output projection at its input, `dh1 · w_outᵀ`: each block adds up two products of blocks.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.Reference9Ideal.OutDproj

open Cert.Reference9Ideal Cert.Reference9Ideal.Gen Idealize.ShloMosaic

/-- The reference's array, and its entries as sums. -/
abbrev out (p : FVec Ideal S8192x2048 .bf16) (q : FVec Ideal S2048x2048 .bf16) : FVec Ideal S8192x2048 .f32 :=
  Host.dotGeneral (F := Ideal) dot_S8192x2048_S2048x2048_S8192x2048_1_1_0_0_n_n none (extf .f32 p bitsLt_bf16_f32) (extf .f32 q bitsLt_bf16_f32)

theorem out_at (p : FVec Ideal S8192x2048 .bf16) (q : FVec Ideal S2048x2048 .bf16) (j : S8192x2048.Idx) :
    out p q j = ∑ k : Fin 2048, p (ix2 (j 0) k) * q (ix2 (j 1) k) := by
  pointwise [out]

end Cert.Reference9Ideal.OutDproj

namespace Cert.Kernel9Ideal.OutDproj

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 (j 1) k) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 (j 1) k) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; frame_out; rw [add_at, zero_at])
    (fun t h j => by
      rw [outsAt0_B m c t h (by omega)]; frame_out; rw [add_at]; simp only [read_unread_whole])
    t h j, zero_add]

/-- At that point the block written back is the accumulator. -/
theorem out_at (c : Dev nD) (t : Fin cfg0.N) (h : t.val % 2 = 1) : (outsAt0 m c t.val t.isLt).1 = (outsAt0 m c t.val t.isLt).2 := by
  funext j
  rw [outsAt0_B m c t (by omega) h]
  frame_out

theorem final (c : Dev nD) : (dats m 0 c).arrAt 2 cfg0.N
    = Cert.Reference9Ideal.OutDproj.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference9Ideal.OutDproj.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel9Ideal.OutDproj

end
-- ==== Proof.OutDw.lean ====
/-
  The gradient of the output projection at its weight, `[mix, read]ᵀ · dh1`: each block adds up eight products of blocks
  over the positions.
-/
module

public import proofs.«01_k».proof.Proof.Gen.Kernel10Ideal.Value
public import proofs.«01_k».proof.Proof.Gen.Reference10Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference10Ideal.OutDw

open Cert.Reference10Ideal Cert.Reference10Ideal.Gen Idealize.ShloMosaic

/-- The arrays side by side. -/
def cat (p : FVec Ideal S8192x1536 .f32) (q : FVec Ideal S8192x512 .f32) : FVec Ideal S8192x2048 .f32 :=
  concatenate S8192x2048 1 [⟨S8192x1536, p⟩, ⟨S8192x512, q⟩] concatenates_S8192x1536_S8192x512_S8192x2048_d1

/-- The reference's array, and its entries as sums. -/
abbrev out (p : FVec Ideal S8192x1536 .f32) (q : FVec Ideal S8192x512 .f32) (r : FVec Ideal S8192x2048 .bf16) : FVec Ideal S2048x2048 .f32 :=
  transpose S2048x2048 [1, 0] (Host.dotGeneral (F := Ideal) dot_S8192x2048_S8192x2048_S2048x2048_0_0_1_1_n_n none (extf .f32 r bitsLt_bf16_f32) (cat p q)) transposes_S2048x2048_S2048x2048_1_0

theorem out_at (p : FVec Ideal S8192x1536 .f32) (q : FVec Ideal S8192x512 .f32) (r : FVec Ideal S8192x2048 .bf16) (j : S2048x2048.Idx) :
    out p q r j = ∑ k : Fin 8192, (cat p q) (ix2 k (j 0)) * r (ix2 k (j 1)) := by
  pointwise [out]
  refine Finset.sum_congr rfl fun k _ => mul_comm _ _

end Cert.Reference10Ideal.OutDw

namespace Cert.Kernel10Ideal.OutDw

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x2048 .bf16 :=
  truncf .bf16 (concatenate S8192x2048 1 [⟨S8192x1536, (m ((c : Thread nD τ).loc main_arg0))⟩, ⟨S8192x512, (m ((c : Thread nD τ).loc main_arg1))⟩] concatenates_S8192x1536_S8192x512_S8192x2048_d1 : FVec Ideal S8192x2048 .f32) bitsLt_bf16_f32

theorem V_cat (c : Dev nD) : V m c main_v1 = cat m c := by
  entry_read
  rfl

theorem cat_eq (c : Dev nD) : cat m c = Cert.Reference10Ideal.OutDw.cat (m ((c : Thread nD τ).loc main_arg0)) (m ((c : Thread nD τ).loc main_arg1)) := rfl

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference10Ideal.OutDw.out (m ((c : Thread nD τ).loc main_arg0)) (m ((c : Thread nD τ).loc main_arg1)) (m ((c : Thread nD τ).loc main_arg2)) := by
  refine (dats m 0 c).arrAt_eq_of_covers 2 _ (by decide +kernel) fun t hf y => ?_
  have h := (flush0_2 t).mp hf
  blk_simp
  rw [after0_2, out_at m c t h, scratch_at m c t h, Cert.Reference10Ideal.OutDw.out_at, ← cat_eq]
  refine Fin.sum_mul_add_congr fun s k hl => ?_
  refine congr (congrArg (HMul.hMul (α := EReal)) ?_) ?_
  · refine (congrFun (V_cat m c) _).trans (congrArg (cat m c) ?_)
    blk_ext [idx t, idx ⟨_, Pipeline.run_point_lt_of_flush t h s⟩]
  · refine (congrFun (V_main_arg2 m c) _).trans (congrArg (m ((c : Thread nD τ).loc main_arg2)) ?_)
    blk_ext [idx t, idx ⟨_, Pipeline.run_point_lt_of_flush t h s⟩]

end Cert.Kernel10Ideal.OutDw

end
-- ==== Proof.S5In.lean ====
/-
  The projection into the S5 mixer, `a · w_in`: each block adds up two products of blocks.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.Reference11Ideal.S5In

open Cert.Reference11Ideal Cert.Reference11Ideal.Gen Idealize.ShloMosaic

/-- The reference's array, and its entries as sums. -/
abbrev out (p : FVec Ideal S8192x2048 .bf16) (q : FVec Ideal S2048x2048 .bf16) : FVec Ideal S8192x2048 .f32 :=
  Host.dotGeneral (F := Ideal) dot_S8192x2048_S2048x2048_S8192x2048_1_0_0_1_n_n none (extf .f32 p bitsLt_bf16_f32) (extf .f32 q bitsLt_bf16_f32)

theorem out_at (p : FVec Ideal S8192x2048 .bf16) (q : FVec Ideal S2048x2048 .bf16) (j : S8192x2048.Idx) :
    out p q j = ∑ k : Fin 2048, p (ix2 (j 0) k) * q (ix2 k (j 1)) := by
  pointwise [out]

end Cert.Reference11Ideal.S5In

namespace Cert.Kernel11Ideal.S5In

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 k (j 1)) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- At that point the block written back is the accumulator. -/
theorem out_at (c : Dev nD) (t : Fin cfg0.N) (h : t.val % 2 = 1) : (outsAt0 m c t.val t.isLt).1 = (outsAt0 m c t.val t.isLt).2 := by
  funext j
  rw [outsAt0_B m c t (by omega) h]
  frame_out

theorem final (c : Dev nD) : (dats m 0 c).arrAt 2 cfg0.N
    = Cert.Reference11Ideal.S5In.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference11Ideal.S5In.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel11Ideal.S5In

end
-- ==== Proof.GdnIn.lean ====
/-
  The projection into the gated delta mixer, `a · w_main`: each block adds up two products of blocks.
-/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

namespace Cert.Reference12Ideal.GdnIn

open Cert.Reference12Ideal Cert.Reference12Ideal.Gen Idealize.ShloMosaic

/-- The reference's array, and its entries as sums. -/
abbrev out (p : FVec Ideal S8192x2048 .bf16) (q : FVec Ideal S2048x6656 .bf16) : FVec Ideal S8192x6656 .f32 :=
  Host.dotGeneral (F := Ideal) dot_S8192x2048_S2048x6656_S8192x6656_1_0_0_1_n_n none (extf .f32 p bitsLt_bf16_f32) (extf .f32 q bitsLt_bf16_f32)

theorem out_at (p : FVec Ideal S8192x2048 .bf16) (q : FVec Ideal S2048x6656 .bf16) (j : S8192x6656.Idx) :
    out p q j = ∑ k : Fin 2048, p (ix2 (j 0) k) * q (ix2 k (j 1)) := by
  pointwise [out]

end Cert.Reference12Ideal.GdnIn

namespace Cert.Kernel12Ideal.GdnIn

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 26, t.val % 2] ∧ win0_1.index t = ![t.val % 2, t.val / 2 % 13]
    ∧ win0_2.index t = ![t.val / 26, t.val / 2 % 13] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x512 .f32) (x : Vec Ideal S1024x1024 .bf16) (y : Vec Ideal S1024x512 .bf16) (j) :
    k0_pay2 (F := Ideal) acc x y j = acc j + ∑ k : Fin 1024, x (ix2 (j 0) k) * y (ix2 k (j 1)) := by
  pointwise [k0_pay2]

/-- The accumulator after the last of the 2 points of a block's run. -/
theorem scratch_at (c : Dev nD) (t : Fin cfg0.N) (h : t.val % 2 = 1) (j : S1024x512.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x512 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x512 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- At that point the block written back is the accumulator. -/
theorem out_at (c : Dev nD) (t : Fin cfg0.N) (h : t.val % 2 = 1) : (outsAt0 m c t.val t.isLt).1 = (outsAt0 m c t.val t.isLt).2 := by
  funext j
  rw [outsAt0_B m c t (by omega) h]
  frame_out

theorem final (c : Dev nD) : (dats m 0 c).arrAt 2 cfg0.N
    = Cert.Reference12Ideal.GdnIn.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference12Ideal.GdnIn.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel12Ideal.GdnIn

end
-- ==== Proof.FoxIn.lean ====
/-
  The projection into the forgetting-attention mixer, `a · w_main`: each block adds up two products of blocks.
-/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

namespace Cert.Reference13Ideal.FoxIn

open Cert.Reference13Ideal Cert.Reference13Ideal.Gen Idealize.ShloMosaic

/-- The reference's array, and its entries as sums. -/
abbrev out (p : FVec Ideal S8192x2048 .bf16) (q : FVec Ideal S2048x5120 .bf16) : FVec Ideal S8192x5120 .f32 :=
  Host.dotGeneral (F := Ideal) dot_S8192x2048_S2048x5120_S8192x5120_1_0_0_1_n_n none (extf .f32 p bitsLt_bf16_f32) (extf .f32 q bitsLt_bf16_f32)

theorem out_at (p : FVec Ideal S8192x2048 .bf16) (q : FVec Ideal S2048x5120 .bf16) (j : S8192x5120.Idx) :
    out p q j = ∑ k : Fin 2048, p (ix2 (j 0) k) * q (ix2 k (j 1)) := by
  pointwise [out]

end Cert.Reference13Ideal.FoxIn

namespace Cert.Kernel13Ideal.FoxIn

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 10, t.val % 2] ∧ win0_1.index t = ![t.val % 2, t.val / 2 % 5]
    ∧ win0_2.index t = ![t.val / 10, t.val / 2 % 5] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 k (j 1)) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- At that point the block written back is the accumulator. -/
theorem out_at (c : Dev nD) (t : Fin cfg0.N) (h : t.val % 2 = 1) : (outsAt0 m c t.val t.isLt).1 = (outsAt0 m c t.val t.isLt).2 := by
  funext j
  rw [outsAt0_B m c t (by omega) h]
  frame_out

theorem final (c : Dev nD) : (dats m 0 c).arrAt 2 cfg0.N
    = Cert.Reference13Ideal.FoxIn.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference13Ideal.FoxIn.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel13Ideal.FoxIn

end
-- ==== Proof.S5Dwin.lean ====
/-
  The gradient of the projection into the S5 mixer at its weight, `aᵀ · [du, dmemq]`: each block adds up eight products
  of blocks over the positions.
-/
module

public import proofs.«01_k».proof.Proof.Gen.Kernel14Ideal.Value
public import proofs.«01_k».proof.Proof.Gen.Reference14Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference14Ideal.S5Dwin

open Cert.Reference14Ideal Cert.Reference14Ideal.Gen Idealize.ShloMosaic

/-- The arrays side by side. -/
def cat (q : FVec Ideal S8192x1536 .f32) (r : FVec Ideal S8192x512 .f32) : FVec Ideal S8192x2048 .f32 :=
  concatenate S8192x2048 1 [⟨S8192x1536, q⟩, ⟨S8192x512, r⟩] concatenates_S8192x1536_S8192x512_S8192x2048_d1

/-- The reference's array, and its entries as sums. -/
abbrev out (p : FVec Ideal S8192x2048 .bf16) (q : FVec Ideal S8192x1536 .f32) (r : FVec Ideal S8192x512 .f32) : FVec Ideal S2048x2048 .f32 :=
  transpose S2048x2048 [1, 0] (Host.dotGeneral (F := Ideal) dot_S8192x2048_S8192x2048_S2048x2048_0_0_1_1_n_n none (cat q r) (extf .f32 p bitsLt_bf16_f32)) transposes_S2048x2048_S2048x2048_1_0

theorem out_at (p : FVec Ideal S8192x2048 .bf16) (q : FVec Ideal S8192x1536 .f32) (r : FVec Ideal S8192x512 .f32) (j : S2048x2048.Idx) :
    out p q r j = ∑ k : Fin 8192, p (ix2 k (j 0)) * (cat q r) (ix2 k (j 1)) := by
  pointwise [out]
  refine Finset.sum_congr rfl fun k _ => mul_comm _ _

end Cert.Reference14Ideal.S5Dwin

namespace Cert.Kernel14Ideal.S5Dwin

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x2048 .bf16 :=
  truncf .bf16 (concatenate S8192x2048 1 [⟨S8192x1536, (m ((c : Thread nD τ).loc main_arg1))⟩, ⟨S8192x512, (m ((c : Thread nD τ).loc main_arg2))⟩] concatenates_S8192x1536_S8192x512_S8192x2048_d1 : FVec Ideal S8192x2048 .f32) bitsLt_bf16_f32

theorem V_cat (c : Dev nD) : V m c main_v1 = cat m c := by
  entry_read
  rfl

theorem cat_eq (c : Dev nD) : cat m c = Cert.Reference14Ideal.S5Dwin.cat (m ((c : Thread nD τ).loc main_arg1)) (m ((c : Thread nD τ).loc main_arg2)) := rfl

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference14Ideal.S5Dwin.out (m ((c : Thread nD τ).loc main_arg0)) (m ((c : Thread nD τ).loc main_arg1)) (m ((c : Thread nD τ).loc main_arg2)) := by
  refine (dats m 0 c).arrAt_eq_of_covers 2 _ (by decide +kernel) fun t hf y => ?_
  have h := (flush0_2 t).mp hf
  blk_simp
  rw [after0_2, out_at m c t h, scratch_at m c t h, Cert.Reference14Ideal.S5Dwin.out_at, ← cat_eq]
  refine Fin.sum_mul_add_congr fun s k hl => ?_
  refine congr (congrArg (HMul.hMul (α := EReal)) ?_) ?_
  · refine (congrFun (V_main_arg0 m c) _).trans (congrArg (m ((c : Thread nD τ).loc main_arg0)) ?_)
    blk_ext [idx t, idx ⟨_, Pipeline.run_point_lt_of_flush t h s⟩]
  · refine (congrFun (V_cat m c) _).trans (congrArg (cat m c) ?_)
    blk_ext [idx t, idx ⟨_, Pipeline.run_point_lt_of_flush t h s⟩]

end Cert.Kernel14Ideal.S5Dwin

end
-- ==== Proof.S5Da.lean ====
/-
  The gradient of the projection into the S5 mixer at its input, `[du, dmemq] · w_inᵀ`: each block adds up two products
  of blocks.
-/
module

public import proofs.«01_k».proof.Proof.Gen.Kernel15Ideal.Value
public import proofs.«01_k».proof.Proof.Gen.Reference15Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference15Ideal.S5Da

open Cert.Reference15Ideal Cert.Reference15Ideal.Gen Idealize.ShloMosaic

/-- The arrays side by side. -/
def cat (p : FVec Ideal S8192x1536 .f32) (q : FVec Ideal S8192x512 .f32) : FVec Ideal S8192x2048 .f32 :=
  concatenate S8192x2048 1 [⟨S8192x1536, p⟩, ⟨S8192x512, q⟩] concatenates_S8192x1536_S8192x512_S8192x2048_d1

/-- The reference's array, and its entries as sums. -/
abbrev out (p : FVec Ideal S8192x1536 .f32) (q : FVec Ideal S8192x512 .f32) (r : FVec Ideal S2048x2048 .bf16) : FVec Ideal S8192x2048 .f32 :=
  Host.dotGeneral (F := Ideal) dot_S8192x2048_S2048x2048_S8192x2048_1_1_0_0_n_n none (cat p q) (extf .f32 r bitsLt_bf16_f32)

theorem out_at (p : FVec Ideal S8192x1536 .f32) (q : FVec Ideal S8192x512 .f32) (r : FVec Ideal S2048x2048 .bf16) (j : S8192x2048.Idx) :
    out p q r j = ∑ k : Fin 2048, (cat p q) (ix2 (j 0) k) * r (ix2 (j 1) k) := by
  pointwise [out]

end Cert.Reference15Ideal.S5Da

namespace Cert.Kernel15Ideal.S5Da

open Cert.Kernel15Ideal Cert.Kernel15Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 (j 1) k) := by
  pointwise [k0_pay2]

/-- The accumulator after the last of the 2 points of a block's run. -/
theorem scratch_at (c : Dev nD) (t : Fin cfg0.N) (h : t.val % 2 = 1) (j : S1024x1024.Idx) :
    (outsAt0 m c t.val t.isLt).2 j
      = ∑ s : Fin 2, ∑ k : Fin 1024, (show Vec Ideal S1024x1024 .bf16 from iblk m c 0 ⟨2 * (t.val / 2) + s.val, Pipeline.run_point_lt_of_flush t h s⟩) (ix2 (j 0) k)
          * (show Vec Ideal S1024x1024 .bf16 from iblk m c 1 ⟨2 * (t.val / 2) + s.val, Pipeline.run_point_lt_of_flush t h s⟩) (ix2 (j 1) k) := by
  rw [Pipeline.eq_sum_fin_of_reset_step_apply_of_flush (fun n h => (outsAt0 m c n h).2) 2 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; frame_out; rw [add_at, zero_at])
    (fun t h j => by
      rw [outsAt0_B m c t h (by omega)]; frame_out; rw [add_at]; simp only [read_unread_whole])
    t h j, zero_add]

/-- What the host lines before the call compute: the arrays side by side. -/
def cat (c : Dev nD) : FVec Ideal S8192x2048 .bf16 :=
  truncf .bf16 (concatenate S8192x2048 1 [⟨S8192x1536, (m ((c : Thread nD τ).loc main_arg0))⟩, ⟨S8192x512, (m ((c : Thread nD τ).loc main_arg1))⟩] concatenates_S8192x1536_S8192x512_S8192x2048_d1 : FVec Ideal S8192x2048 .f32) bitsLt_bf16_f32

theorem V_cat (c : Dev nD) : V m c main_v1 = cat m c := by
  entry_read
  rfl

theorem cat_eq (c : Dev nD) : cat m c = Cert.Reference15Ideal.S5Da.cat (m ((c : Thread nD τ).loc main_arg0)) (m ((c : Thread nD τ).loc main_arg1)) := rfl

/-- At that point the block written back is the accumulator. -/
theorem out_at (c : Dev nD) (t : Fin cfg0.N) (h : t.val % 2 = 1) : (outsAt0 m c t.val t.isLt).1 = (outsAt0 m c t.val t.isLt).2 := by
  funext j
  rw [outsAt0_B m c t (by omega) h]
  frame_out

theorem final (c : Dev nD) : (dats m 0 c).arrAt 2 cfg0.N
    = Cert.Reference15Ideal.S5Da.out (m ((c : Thread nD τ).loc main_arg0)) (m ((c : Thread nD τ).loc main_arg1)) (m ((c : Thread nD τ).loc main_arg2)) := by
  refine (dats m 0 c).arrAt_eq_of_covers 2 _ (by decide +kernel) fun t hf y => ?_
  have h := (flush0_2 t).mp hf
  blk_simp
  rw [after0_2, out_at m c t h, scratch_at m c t h, Cert.Reference15Ideal.S5Da.out_at, ← cat_eq]
  refine Fin.sum_mul_add_congr fun s k hl => ?_
  refine congr (congrArg (HMul.hMul (α := EReal)) ?_) ?_
  · refine (congrFun (V_cat m c) _).trans (congrArg (cat m c) ?_)
    blk_ext [idx t, idx ⟨_, Pipeline.run_point_lt_of_flush t h s⟩]
  · refine (congrFun (V_main_arg2 m c) _).trans (congrArg (m ((c : Thread nD τ).loc main_arg2)) ?_)
    blk_ext [idx t, idx ⟨_, Pipeline.run_point_lt_of_flush t h s⟩]

end Cert.Kernel15Ideal.S5Da

end
-- ==== Proof.GdnDw.lean ====
/-
  The gradient of the projection into the gated delta mixer at its weight, `aᵀ · dproj`, `dproj` the five parts side by
  side: each block adds up eight products of blocks over the positions.
-/
module

public import proofs.«01_k».proof.Proof.Gen.Kernel16Ideal.Value
public import proofs.«01_k».proof.Proof.Gen.Reference16Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference16Ideal.GdnDw

open Cert.Reference16Ideal Cert.Reference16Ideal.Gen Idealize.ShloMosaic

/-- The arrays side by side. -/
def cat (q : FVec Ideal S8192x1536 .f32) (r : FVec Ideal S8192x1536 .f32) (s : FVec Ideal S8192x1536 .f32) (u : FVec Ideal S8192x1536 .f32) (v : FVec Ideal S8192x512 .f32) : FVec Ideal S8192x6656 .f32 :=
  concatenate S8192x6656 1 [⟨S8192x1536, q⟩, ⟨S8192x1536, r⟩, ⟨S8192x1536, s⟩, ⟨S8192x1536, u⟩, ⟨S8192x512, v⟩] concatenates_S8192x1536_S8192x1536_S8192x1536_S8192x1536_S8192x512_S8192x6656_d1

/-- The reference's array, and its entries as sums. -/
abbrev out (p : FVec Ideal S8192x2048 .bf16) (q : FVec Ideal S8192x1536 .f32) (r : FVec Ideal S8192x1536 .f32) (s : FVec Ideal S8192x1536 .f32) (u : FVec Ideal S8192x1536 .f32) (v : FVec Ideal S8192x512 .f32) : FVec Ideal S2048x6656 .f32 :=
  transpose S2048x6656 [1, 0] (Host.dotGeneral (F := Ideal) dot_S8192x6656_S8192x2048_S6656x2048_0_0_1_1_n_n none (cat q r s u v) (extf .f32 p bitsLt_bf16_f32)) transposes_S6656x2048_S2048x6656_1_0

theorem out_at (p : FVec Ideal S8192x2048 .bf16) (q : FVec Ideal S8192x1536 .f32) (r : FVec Ideal S8192x1536 .f32) (s : FVec Ideal S8192x1536 .f32) (u : FVec Ideal S8192x1536 .f32) (v : FVec Ideal S8192x512 .f32) (j : S2048x6656.Idx) :
    out p q r s u v j = ∑ k : Fin 8192, p (ix2 k (j 0)) * (cat q r s u v) (ix2 k (j 1)) := by
  pointwise [out]
  refine Finset.sum_congr rfl fun k _ => mul_comm _ _

end Cert.Reference16Ideal.GdnDw

namespace Cert.Kernel16Ideal.GdnDw

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 104] ∧ win0_1.index t = ![t.val % 8, t.val / 8 % 13]
    ∧ win0_2.index t = ![t.val / 104, t.val / 8 % 13] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x512 .f32) (x : Vec Ideal S1024x1024 .bf16) (y : Vec Ideal S1024x512 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x512.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x512 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x512 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x6656 .bf16 :=
  truncf .bf16 (concatenate S8192x6656 1 [⟨S8192x1536, (m ((c : Thread nD τ).loc main_arg1))⟩, ⟨S8192x1536, (m ((c : Thread nD τ).loc main_arg2))⟩, ⟨S8192x1536, (m ((c : Thread nD τ).loc main_arg3))⟩, ⟨S8192x1536, (m ((c : Thread nD τ).loc main_arg4))⟩, ⟨S8192x512, (m ((c : Thread nD τ).loc main_arg5))⟩] concatenates_S8192x1536_S8192x1536_S8192x1536_S8192x1536_S8192x512_S8192x6656_d1 : FVec Ideal S8192x6656 .f32) bitsLt_bf16_f32

theorem V_cat (c : Dev nD) : V m c main_v1 = cat m c := by
  entry_read
  rfl

theorem cat_eq (c : Dev nD) : cat m c = Cert.Reference16Ideal.GdnDw.cat (m ((c : Thread nD τ).loc main_arg1)) (m ((c : Thread nD τ).loc main_arg2)) (m ((c : Thread nD τ).loc main_arg3)) (m ((c : Thread nD τ).loc main_arg4)) (m ((c : Thread nD τ).loc main_arg5)) := rfl

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference16Ideal.GdnDw.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 2 _ (by decide +kernel) fun t hf y => ?_
  have h := (flush0_2 t).mp hf
  blk_simp
  rw [after0_2, out_at m c t h, scratch_at m c t h, Cert.Reference16Ideal.GdnDw.out_at, ← cat_eq]
  refine Fin.sum_mul_add_congr fun s k hl => ?_
  refine congr (congrArg (HMul.hMul (α := EReal)) ?_) ?_
  · refine (congrFun (V_main_arg0 m c) _).trans (congrArg (m ((c : Thread nD τ).loc main_arg0)) ?_)
    blk_ext [idx t, idx ⟨_, Pipeline.run_point_lt_of_flush t h s⟩]
  · refine (congrFun (V_cat m c) _).trans (congrArg (cat m c) ?_)
    blk_ext [idx t, idx ⟨_, Pipeline.run_point_lt_of_flush t h s⟩]

end Cert.Kernel16Ideal.GdnDw

end
-- ==== Proof.GdnDa.lean ====
/-
  The gradient of the projection into the gated delta mixer at its input, `dproj · w_mainᵀ` added to the gates' gradient:
  each block adds up thirteen products of blocks.
-/
module

public import proofs.«01_k».proof.Proof.Gen.Kernel17Ideal.Value
public import proofs.«01_k».proof.Proof.Gen.Reference17Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference17Ideal.GdnDa

open Cert.Reference17Ideal Cert.Reference17Ideal.Gen Idealize.ShloMosaic

/-- The arrays side by side. -/
def cat (p : FVec Ideal S8192x1536 .f32) (q : FVec Ideal S8192x1536 .f32) (r : FVec Ideal S8192x1536 .f32) (s : FVec Ideal S8192x1536 .f32) (u : FVec Ideal S8192x512 .f32) : FVec Ideal S8192x6656 .f32 :=
  concatenate S8192x6656 1 [⟨S8192x1536, p⟩, ⟨S8192x1536, q⟩, ⟨S8192x1536, r⟩, ⟨S8192x1536, s⟩, ⟨S8192x512, u⟩] concatenates_S8192x1536_S8192x1536_S8192x1536_S8192x1536_S8192x512_S8192x6656_d1

/-- The product, and the reference's array: the array added to it. -/
def prod (p : FVec Ideal S8192x1536 .f32) (q : FVec Ideal S8192x1536 .f32) (r : FVec Ideal S8192x1536 .f32) (s : FVec Ideal S8192x1536 .f32) (u : FVec Ideal S8192x512 .f32) (v : FVec Ideal S2048x6656 .bf16) (w : FVec Ideal S8192x2048 .f32) : FVec Ideal S8192x2048 .f32 :=
  Host.dotGeneral (F := Ideal) dot_S8192x6656_S2048x6656_S8192x2048_1_1_0_0_n_n none (cat p q r s u) (extf .f32 v bitsLt_bf16_f32)

def out (p : FVec Ideal S8192x1536 .f32) (q : FVec Ideal S8192x1536 .f32) (r : FVec Ideal S8192x1536 .f32) (s : FVec Ideal S8192x1536 .f32) (u : FVec Ideal S8192x512 .f32) (v : FVec Ideal S2048x6656 .bf16) (w : FVec Ideal S8192x2048 .f32) : FVec Ideal S8192x2048 .f32 :=
  addf w (prod p q r s u v w)

theorem prod_at (p : FVec Ideal S8192x1536 .f32) (q : FVec Ideal S8192x1536 .f32) (r : FVec Ideal S8192x1536 .f32) (s : FVec Ideal S8192x1536 .f32) (u : FVec Ideal S8192x512 .f32) (v : FVec Ideal S2048x6656 .bf16) (w : FVec Ideal S8192x2048 .f32) (j : S8192x2048.Idx) :
    prod p q r s u v w j = ∑ k : Fin 6656, (cat p q r s u) (ix2 (j 0) k) * v (ix2 (j 1) k) := by
  pointwise [prod]

theorem out_at (p : FVec Ideal S8192x1536 .f32) (q : FVec Ideal S8192x1536 .f32) (r : FVec Ideal S8192x1536 .f32) (s : FVec Ideal S8192x1536 .f32) (u : FVec Ideal S8192x512 .f32) (v : FVec Ideal S2048x6656 .bf16) (w : FVec Ideal S8192x2048 .f32) (j : S8192x2048.Idx) :
    out p q r s u v w j = (∑ k : Fin 6656, (cat p q r s u) (ix2 (j 0) k) * v (ix2 (j 1) k)) + w j := by
  rw [← prod_at]
  pointwise [out]
  exact add_comm _ _

end Cert.Reference17Ideal.GdnDa

namespace Cert.Kernel17Ideal.GdnDa

open Cert.Kernel17Ideal Cert.Kernel17Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 26, t.val % 13] ∧ win0_1.index t = ![t.val / 13 % 2, t.val % 13]
    ∧ win0_3.index t = ![t.val / 26, t.val / 13 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x512 .bf16) (y : Vec Ideal S1024x512 .bf16) (j) :
    k0_pay2 (F := Ideal) acc x y j = acc j + ∑ k : Fin 512, x (ix2 (j 0) k) * y (ix2 (j 1) k) := by
  pointwise [k0_pay2]

/-- The accumulator after the last of the 13 points of a block's run. -/
theorem scratch_at (c : Dev nD) (t : Fin cfg0.N) (h : t.val % 13 = 12) (j : S1024x1024.Idx) :
    (outsAt0 m c t.val t.isLt).2 j
      = ∑ s : Fin 13, ∑ k : Fin 512, (show Vec Ideal S1024x512 .bf16 from iblk m c 0 ⟨13 * (t.val / 13) + s.val, Pipeline.run_point_lt_of_flush t h s⟩) (ix2 (j 0) k)
          * (show Vec Ideal S1024x512 .bf16 from iblk m c 1 ⟨13 * (t.val / 13) + s.val, Pipeline.run_point_lt_of_flush t h s⟩) (ix2 (j 1) k) := by
  rw [Pipeline.eq_sum_fin_of_reset_step_apply_of_flush (fun n h => (outsAt0 m c n h).2) 13 (fun _ => 0)
    (fun p j => ∑ k : Fin 512, (show Vec Ideal S1024x512 .bf16 from iblk m c 0 p) (ix2 (j 0) k) * (show Vec Ideal S1024x512 .bf16 from iblk m c 1 p) (ix2 (j 1) k))
    (fun t h j => by rw [outsAt0_A m c t h (by omega)]; frame_out; rw [add_at, zero_at])
    (fun t h j => by
      by_cases h1 : t.val % 13 = 12
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x6656 .bf16 :=
  truncf .bf16 (concatenate S8192x6656 1 [⟨S8192x1536, (m ((c : Thread nD τ).loc main_arg0))⟩, ⟨S8192x1536, (m ((c : Thread nD τ).loc main_arg1))⟩, ⟨S8192x1536, (m ((c : Thread nD τ).loc main_arg2))⟩, ⟨S8192x1536, (m ((c : Thread nD τ).loc main_arg3))⟩, ⟨S8192x512, (m ((c : Thread nD τ).loc main_arg4))⟩] concatenates_S8192x1536_S8192x1536_S8192x1536_S8192x1536_S8192x512_S8192x6656_d1 : FVec Ideal S8192x6656 .f32) bitsLt_bf16_f32

theorem V_cat (c : Dev nD) : V m c main_v1 = cat m c := by
  entry_read
  rfl

theorem cat_eq (c : Dev nD) : cat m c = Cert.Reference17Ideal.GdnDa.cat (m ((c : Thread nD τ).loc main_arg0)) (m ((c : Thread nD τ).loc main_arg1)) (m ((c : Thread nD τ).loc main_arg2)) (m ((c : Thread nD τ).loc main_arg3)) (m ((c : Thread nD τ).loc main_arg4)) := rfl

/-- The write-back adds the array's block to the accumulator. -/
theorem epi_at (acc : Vec Ideal S1024x1024 .f32) (x : Vec Ideal S1024x1024 .f32) (j) : k0_pay3 (F := Ideal) acc x j = acc j + x j := by
  pointwise [k0_pay3]

theorem out_at (c : Dev nD) (t : Fin cfg0.N) (h : t.val % 13 = 12) (j : S1024x1024.Idx) :
    (outsAt0 m c t.val t.isLt).1 j = (outsAt0 m c t.val t.isLt).2 j + (show Vec Ideal S1024x1024 .f32 from iblk m c 2 t) j := by
  rw [outsAt0_C m c t (by omega) h]
  frame_out
  rw [epi_at]

theorem idx2 : ∀ t : Fin cfg0.N, win0_2.index t = ![t.val / 26, t.val / 13 % 2] :=
  (by decide +kernel : ∀ t : Fin grid0.N, _)

theorem final (c : Dev nD) : (dats m 0 c).arrAt 3 cfg0.N
    = Cert.Reference17Ideal.GdnDa.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 3 _ (by decide +kernel) fun t hf y => ?_
  have h := (flush0_3 t).mp hf
  blk_simp
  rw [after0_3, out_at m c t h, scratch_at m c t h, Cert.Reference17Ideal.GdnDa.out_at, ← cat_eq]
  refine congr (congrArg (HAdd.hAdd (α := EReal)) ?_) ?_
  · refine Fin.sum_mul_add_congr fun s k hl => ?_
    refine congr (congrArg (HMul.hMul (α := EReal)) ?_) ?_
    · refine (congrFun (V_cat m c) _).trans (congrArg (cat m c) ?_)
      blk_ext [idx t, idx ⟨_, Pipeline.run_point_lt_of_flush t h s⟩]
    · refine (congrFun (V_main_arg5 m c) _).trans (congrArg (m ((c : Thread nD τ).loc main_arg5)) ?_)
      blk_ext [idx t, idx ⟨_, Pipeline.run_point_lt_of_flush t h s⟩]
  · refine (congrFun (V_main_arg6 m c) _).trans (congrArg (m ((c : Thread nD τ).loc main_arg6)) ?_)
    blk_ext [idx t, idx2 t]

end Cert.Kernel17Ideal.GdnDa

end
-- ==== Proof.FoxDw.lean ====
/-
  The gradient of the projection into the forgetting-attention mixer at its weight, `aᵀ · dproj`, `dproj` the four parts
  side by side: each block adds up eight products of blocks over the positions.
-/
module

public import proofs.«01_k».proof.Proof.Gen.Kernel18Ideal.Value
public import proofs.«01_k».proof.Proof.Gen.Reference18Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference18Ideal.FoxDw

open Cert.Reference18Ideal Cert.Reference18Ideal.Gen Idealize.ShloMosaic

/-- The arrays side by side. -/
def cat (q : FVec Ideal S8192x1536 .f32) (r : FVec Ideal S8192x1536 .f32) (s : FVec Ideal S8192x1536 .f32) (u : FVec Ideal S8192x512 .f32) : FVec Ideal S8192x5120 .f32 :=
  concatenate S8192x5120 1 [⟨S8192x1536, q⟩, ⟨S8192x1536, r⟩, ⟨S8192x1536, s⟩, ⟨S8192x512, u⟩] concatenates_S8192x1536_S8192x1536_S8192x1536_S8192x512_S8192x5120_d1

/-- The reference's array, and its entries as sums. -/
abbrev out (p : FVec Ideal S8192x2048 .bf16) (q : FVec Ideal S8192x1536 .f32) (r : FVec Ideal S8192x1536 .f32) (s : FVec Ideal S8192x1536 .f32) (u : FVec Ideal S8192x512 .f32) : FVec Ideal S2048x5120 .f32 :=
  transpose S2048x5120 [1, 0] (Host.dotGeneral (F := Ideal) dot_S8192x5120_S8192x2048_S5120x2048_0_0_1_1_n_n none (cat q r s u) (extf .f32 p bitsLt_bf16_f32)) transposes_S5120x2048_S2048x5120_1_0

theorem out_at (p : FVec Ideal S8192x2048 .bf16) (q : FVec Ideal S8192x1536 .f32) (r : FVec Ideal S8192x1536 .f32) (s : FVec Ideal S8192x1536 .f32) (u : FVec Ideal S8192x512 .f32) (j : S2048x5120.Idx) :
    out p q r s u j = ∑ k : Fin 8192, p (ix2 k (j 0)) * (cat q r s u) (ix2 k (j 1)) := by
  pointwise [out]
  refine Finset.sum_congr rfl fun k _ => mul_comm _ _

end Cert.Reference18Ideal.FoxDw

namespace Cert.Kernel18Ideal.FoxDw

open Cert.Kernel18Ideal Cert.Kernel18Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 40] ∧ win0_1.index t = ![t.val % 8, t.val / 8 % 5]
    ∧ win0_2.index t = ![t.val / 40, t.val / 8 % 5] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S1024x1024.Idx) :
    (outsAt0 m c t.val t.isLt).2 j
      = ∑ s : Fin 8, ∑ k : Fin 1024, (show Vec Ideal S1024x1024 .bf16 from iblk m c 0 ⟨8 * (t.val / 8) + s.val, Pipeline.run_point_lt_of_flush t h s⟩) (ix2 k (j 0))
          * (show Vec Ideal S1024x1024 .bf16 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x1024 .bf16 from iblk m c 0 p) (ix2 k (j 0)) * (show Vec Ideal S1024x1024 .bf16 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x5120 .bf16 :=
  truncf .bf16 (concatenate S8192x5120 1 [⟨S8192x1536, (m ((c : Thread nD τ).loc main_arg1))⟩, ⟨S8192x1536, (m ((c : Thread nD τ).loc main_arg2))⟩, ⟨S8192x1536, (m ((c : Thread nD τ).loc main_arg3))⟩, ⟨S8192x512, (m ((c : Thread nD τ).loc main_arg4))⟩] concatenates_S8192x1536_S8192x1536_S8192x1536_S8192x512_S8192x5120_d1 : FVec Ideal S8192x5120 .f32) bitsLt_bf16_f32

theorem V_cat (c : Dev nD) : V m c main_v1 = cat m c := by
  entry_read
  rfl

theorem cat_eq (c : Dev nD) : cat m c = Cert.Reference18Ideal.FoxDw.cat (m ((c : Thread nD τ).loc main_arg1)) (m ((c : Thread nD τ).loc main_arg2)) (m ((c : Thread nD τ).loc main_arg3)) (m ((c : Thread nD τ).loc main_arg4)) := rfl

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference18Ideal.FoxDw.out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t hf y => ?_
  have h := (flush0_2 t).mp hf
  blk_simp
  rw [after0_2, out_at m c t h, scratch_at m c t h, Cert.Reference18Ideal.FoxDw.out_at, ← cat_eq]
  refine Fin.sum_mul_add_congr fun s k hl => ?_
  refine congr (congrArg (HMul.hMul (α := EReal)) ?_) ?_
  · refine (congrFun (V_main_arg0 m c) _).trans (congrArg (m ((c : Thread nD τ).loc main_arg0)) ?_)
    blk_ext [idx t, idx ⟨_, Pipeline.run_point_lt_of_flush t h s⟩]
  · refine (congrFun (V_cat m c) _).trans (congrArg (cat m c) ?_)
    blk_ext [idx t, idx ⟨_, Pipeline.run_point_lt_of_flush t h s⟩]

end Cert.Kernel18Ideal.FoxDw

end
-- ==== Proof.FoxDa.lean ====
/-
  The gradient of the projection into the forgetting-attention mixer at its input, `dproj · w_mainᵀ` added to the gates'
  gradient: each block adds up five products of blocks.
-/
module

public import proofs.«01_k».proof.Proof.Gen.Kernel19Ideal.Value
public import proofs.«01_k».proof.Proof.Gen.Reference19Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference19Ideal.FoxDa

open Cert.Reference19Ideal Cert.Reference19Ideal.Gen Idealize.ShloMosaic

/-- The arrays side by side. -/
def cat (p : FVec Ideal S8192x1536 .f32) (q : FVec Ideal S8192x1536 .f32) (r : FVec Ideal S8192x1536 .f32) (s : FVec Ideal S8192x512 .f32) : FVec Ideal S8192x5120 .f32 :=
  concatenate S8192x5120 1 [⟨S8192x1536, p⟩, ⟨S8192x1536, q⟩, ⟨S8192x1536, r⟩, ⟨S8192x512, s⟩] concatenates_S8192x1536_S8192x1536_S8192x1536_S8192x512_S8192x5120_d1

/-- The product, and the reference's array: the array added to it. -/
def prod (p : FVec Ideal S8192x1536 .f32) (q : FVec Ideal S8192x1536 .f32) (r : FVec Ideal S8192x1536 .f32) (s : FVec Ideal S8192x512 .f32) (u : FVec Ideal S2048x5120 .bf16) (v : FVec Ideal S8192x2048 .f32) : FVec Ideal S8192x2048 .f32 :=
  Host.dotGeneral (F := Ideal) dot_S8192x5120_S2048x5120_S8192x2048_1_1_0_0_n_n none (cat p q r s) (extf .f32 u bitsLt_bf16_f32)

def out (p : FVec Ideal S8192x1536 .f32) (q : FVec Ideal S8192x1536 .f32) (r : FVec Ideal S8192x1536 .f32) (s : FVec Ideal S8192x512 .f32) (u : FVec Ideal S2048x5120 .bf16) (v : FVec Ideal S8192x2048 .f32) : FVec Ideal S8192x2048 .f32 :=
  addf v (prod p q r s u v)

theorem prod_at (p : FVec Ideal S8192x1536 .f32) (q : FVec Ideal S8192x1536 .f32) (r : FVec Ideal S8192x1536 .f32) (s : FVec Ideal S8192x512 .f32) (u : FVec Ideal S2048x5120 .bf16) (v : FVec Ideal S8192x2048 .f32) (j : S8192x2048.Idx) :
    prod p q r s u v j = ∑ k : Fin 5120, (cat p q r s) (ix2 (j 0) k) * u (ix2 (j 1) k) := by
  pointwise [prod]

theorem out_at (p : FVec Ideal S8192x1536 .f32) (q : FVec Ideal S8192x1536 .f32) (r : FVec Ideal S8192x1536 .f32) (s : FVec Ideal S8192x512 .f32) (u : FVec Ideal S2048x5120 .bf16) (v : FVec Ideal S8192x2048 .f32) (j : S8192x2048.Idx) :
    out p q r s u v j = (∑ k : Fin 5120, (cat p q r s) (ix2 (j 0) k) * u (ix2 (j 1) k)) + v j := by
  rw [← prod_at]
  pointwise [out]
  exact add_comm _ _

end Cert.Reference19Ideal.FoxDa

namespace Cert.Kernel19Ideal.FoxDa

open Cert.Kernel19Ideal Cert.Kernel19Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 10, t.val % 5] ∧ win0_1.index t = ![t.val / 5 % 2, t.val % 5]
    ∧ win0_3.index t = ![t.val / 10, t.val / 5 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x1024 .f32) (x : Vec Ideal S1024x1024 .bf16) (y : Vec Ideal S1024x1024 .bf16) (j) :
    k0_pay2 (F := Ideal) acc x y j = acc j + ∑ k : Fin 1024, x (ix2 (j 0) k) * y (ix2 (j 1) k) := by
  pointwise [k0_pay2]

/-- The accumulator after the last of the 5 points of a block's run. -/
theorem scratch_at (c : Dev nD) (t : Fin cfg0.N) (h : t.val % 5 = 4) (j : S1024x1024.Idx) :
    (outsAt0 m c t.val t.isLt).2 j
      = ∑ s : Fin 5, ∑ k : Fin 1024, (show Vec Ideal S1024x1024 .bf16 from iblk m c 0 ⟨5 * (t.val / 5) + s.val, Pipeline.run_point_lt_of_flush t h s⟩) (ix2 (j 0) k)
          * (show Vec Ideal S1024x1024 .bf16 from iblk m c 1 ⟨5 * (t.val / 5) + s.val, Pipeline.run_point_lt_of_flush t h s⟩) (ix2 (j 1) k) := by
  rw [Pipeline.eq_sum_fin_of_reset_step_apply_of_flush (fun n h => (outsAt0 m c n h).2) 5 (fun _ => 0)
    (fun p j => ∑ k : Fin 1024, (show Vec Ideal S1024x1024 .bf16 from iblk m c 0 p) (ix2 (j 0) k) * (show Vec Ideal S1024x1024 .bf16 from iblk m c 1 p) (ix2 (j 1) k))
    (fun t h j => by rw [outsAt0_A m c t h (by omega)]; frame_out; rw [add_at, zero_at])
    (fun t h j => by
      by_cases h1 : t.val % 5 = 4
      · rw [outsAt0_C m c t h h1]; frame_out; rw [add_at]; simp only [read_unread_whole]
      · rw [outsAt0_B m c t h h1]; frame_out; rw [add_at]; simp only [read_unread_whole])
    t h j, zero_add]

/-- What the host lines before the call compute: the arrays side by side. -/
def cat (c : Dev nD) : FVec Ideal S8192x5120 .bf16 :=
  truncf .bf16 (concatenate S8192x5120 1 [⟨S8192x1536, (m ((c : Thread nD τ).loc main_arg0))⟩, ⟨S8192x1536, (m ((c : Thread nD τ).loc main_arg1))⟩, ⟨S8192x1536, (m ((c : Thread nD τ).loc main_arg2))⟩, ⟨S8192x512, (m ((c : Thread nD τ).loc main_arg3))⟩] concatenates_S8192x1536_S8192x1536_S8192x1536_S8192x512_S8192x5120_d1 : FVec Ideal S8192x5120 .f32) bitsLt_bf16_f32

theorem V_cat (c : Dev nD) : V m c main_v1 = cat m c := by
  entry_read
  rfl

theorem cat_eq (c : Dev nD) : cat m c = Cert.Reference19Ideal.FoxDa.cat (m ((c : Thread nD τ).loc main_arg0)) (m ((c : Thread nD τ).loc main_arg1)) (m ((c : Thread nD τ).loc main_arg2)) (m ((c : Thread nD τ).loc main_arg3)) := rfl

/-- The write-back adds the array's block to the accumulator. -/
theorem epi_at (acc : Vec Ideal S1024x1024 .f32) (x : Vec Ideal S1024x1024 .f32) (j) : k0_pay3 (F := Ideal) acc x j = acc j + x j := by
  pointwise [k0_pay3]

theorem out_at (c : Dev nD) (t : Fin cfg0.N) (h : t.val % 5 = 4) (j : S1024x1024.Idx) :
    (outsAt0 m c t.val t.isLt).1 j = (outsAt0 m c t.val t.isLt).2 j + (show Vec Ideal S1024x1024 .f32 from iblk m c 2 t) j := by
  rw [outsAt0_C m c t (by omega) h]
  frame_out
  rw [epi_at]

theorem idx2 : ∀ t : Fin cfg0.N, win0_2.index t = ![t.val / 10, t.val / 5 % 2] :=
  (by decide +kernel : ∀ t : Fin grid0.N, _)

theorem final (c : Dev nD) : (dats m 0 c).arrAt 3 cfg0.N
    = Cert.Reference19Ideal.FoxDa.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 3 _ (by decide +kernel) fun t hf y => ?_
  have h := (flush0_3 t).mp hf
  blk_simp
  rw [after0_3, out_at m c t h, scratch_at m c t h, Cert.Reference19Ideal.FoxDa.out_at, ← cat_eq]
  refine congr (congrArg (HAdd.hAdd (α := EReal)) ?_) ?_
  · refine Fin.sum_mul_add_congr fun s k hl => ?_
    refine congr (congrArg (HMul.hMul (α := EReal)) ?_) ?_
    · refine (congrFun (V_cat m c) _).trans (congrArg (cat m c) ?_)
      blk_ext [idx t, idx ⟨_, Pipeline.run_point_lt_of_flush t h s⟩]
    · refine (congrFun (V_main_arg4 m c) _).trans (congrArg (m ((c : Thread nD τ).loc main_arg4)) ?_)
      blk_ext [idx t, idx ⟨_, Pipeline.run_point_lt_of_flush t h s⟩]
  · refine (congrFun (V_main_arg5 m c) _).trans (congrArg (m ((c : Thread nD τ).loc main_arg5)) ?_)
    blk_ext [idx t, idx2 t]

end Cert.Kernel19Ideal.FoxDa

end
-- ==== Proof.S5Glu.lean ====
/-
  The gate of the S5 mixer: its argument `z = y · w + b` and the gated `y · sigmoid z`. Each block of the product adds up
  two products of blocks, and the write-back adds the bias and applies the sigmoid.
-/
module

public import proofs.«01_k».proof.Proof.Gen.Kernel20Ideal.Value
public import proofs.«01_k».proof.Proof.Gen.Reference20Ideal.Run
public import Idealize.ShloMosaic.Lib.Claim
public import Idealize.ShloMosaic.Lib.Pipeline.ValueKit
public import Idealize.ShloMosaic.Lib.Pipeline.ReadBack

@[expose] public section

set_option maxRecDepth 16384

noncomputable section

namespace Cert.Reference20Ideal.S5Glu

open Cert.Reference20Ideal Cert.Reference20Ideal.Gen Idealize.ShloMosaic

/-- The product, and the reference's arrays: the gate's argument `y · w + b`, and `y` times its sigmoid. -/
def prod (y : FVec Ideal S8192x1536 .f32) (w : FVec Ideal S1536x1536 .bf16) : FVec Ideal S8192x1536 .f32 :=
  Host.dotGeneral (F := Ideal) dot_S8192x1536_S1536x1536_S8192x1536_1_0_0_1_n_n none y (extf .f32 w bitsLt_bf16_f32)

def outz (y : FVec Ideal S8192x1536 .f32) (w : FVec Ideal S1536x1536 .bf16) (b : FVec Ideal S1536 .f32) : FVec Ideal S8192x1536 .f32 :=
  addf (prod y w) (broadcastInDim S8192x1536 ![0, 1] bcast_S1x1536_S8192x1536_0_1 (broadcastInDim S1x1536 ![1] bcast_S1536_S1x1536_1 b))

def outm (y : FVec Ideal S8192x1536 .f32) (w : FVec Ideal S1536x1536 .bf16) (b : FVec Ideal S1536 .f32) : FVec Ideal S8192x1536 .f32 :=
  mulf y (Host.divf (broadcastInDim S8192x1536 ![] bcast_S_S8192x1536 (constant S_ .f32 0x3F800000#32))
    (addf (broadcastInDim S8192x1536 ![] bcast_S_S8192x1536 (constant S_ .f32 0x3F800000#32)) (Host.exp (Host.negf (outz y w b)))))

theorem prod_at (y : FVec Ideal S8192x1536 .f32) (w : FVec Ideal S1536x1536 .bf16) (j : S8192x1536.Idx) :
    prod y w j = ∑ k : Fin 1536, y (ix2 (j 0) k) * w (ix2 k (j 1)) := by
  pointwise [prod]

theorem outz_at (y : FVec Ideal S8192x1536 .f32) (w : FVec Ideal S1536x1536 .bf16) (b : FVec Ideal S1536 .f32) (j : S8192x1536.Idx) :
    outz y w b j = (∑ k : Fin 1536, y (ix2 (j 0) k) * w (ix2 k (j 1))) + b (ix1 (j 1)) := by
  rw [← prod_at]
  pointwise [outz]

theorem outm_at (y : FVec Ideal S8192x1536 .f32) (w : FVec Ideal S1536x1536 .bf16) (b : FVec Ideal S1536 .f32) (j : S8192x1536.Idx) :
    outm y w b j = y j * Ideal.div 1 (1 + Ideal.exp (-outz y w b j)) := by
  pointwise [outm]

end Cert.Reference20Ideal.S5Glu

namespace Cert.Kernel20Ideal.S5Glu

open Cert.Kernel20Ideal Cert.Kernel20Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val / 4, t.val % 2] ∧ win0_1.index t = ![t.val % 2, t.val / 2 % 2]
    ∧ win0_4.index t = ![t.val / 4, t.val / 2 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S1024x768 .f32) (x : Vec Ideal S1024x768 .f32) (y : Vec Ideal S768x768 .bf16) (j) :
    k0_pay2 (F := Ideal) acc x y j = acc j + ∑ k : Fin 768, x (ix2 (j 0) k) * y (ix2 k (j 1)) := by
  pointwise [k0_pay2]

/-- The accumulator after the last of the 2 points of a block's run. -/
theorem scratch_at (c : Dev nD) (t : Fin cfg0.N) (h : t.val % 2 = 1) (j : S1024x768.Idx) :
    (outsAt0 m c t.val t.isLt).2.2 j
      = ∑ s : Fin 2, ∑ k : Fin 768, (show Vec Ideal S1024x768 .f32 from iblk m c 0 ⟨2 * (t.val / 2) + s.val, Pipeline.run_point_lt_of_flush t h s⟩) (ix2 (j 0) k)
          * (show Vec Ideal S768x768 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2.2) 2 (fun _ => 0)
    (fun p j => ∑ k : Fin 768, (show Vec Ideal S1024x768 .f32 from iblk m c 0 p) (ix2 (j 0) k) * (show Vec Ideal S768x768 .bf16 from iblk m c 1 p) (ix2 k (j 1)))
    (fun t h j => by rw [outsAt0_A m c t h (by omega)]; frame_out; rw [add_at, zero_at])
    (fun t h j => by
      rw [outsAt0_B m c t h (by omega)]; frame_out; rw [add_at]; simp only [read_unread_whole])
    t h j, zero_add]

/-- The write-back adds the bias, and multiplies the input's block by the sigmoid of that. -/
theorem epiz_at (acc : Vec Ideal S1024x768 .f32) (b : Vec Ideal S1x768 .f32) (j) : k0_pay4 (F := Ideal) acc b j = acc j + b (ix2 0 (j 1)) := by
  pointwise [k0_pay4, k0_pay3]

theorem epim_at (acc y : Vec Ideal S1024x768 .f32) (b : Vec Ideal S1x768 .f32) (j) :
    k0_pay5 (F := Ideal) acc y b j = y j * Ideal.div 1 (1 + Ideal.exp (-(acc j + b (ix2 0 (j 1))))) := by
  pointwise [k0_pay5, k0_pay3]
  rw [zero_sub]

theorem outz_at (c : Dev nD) (t : Fin cfg0.N) (h : t.val % 2 = 1) (j : S1024x768.Idx) :
    (outsAt0 m c t.val t.isLt).1 j = (outsAt0 m c t.val t.isLt).2.2 j + (show Vec Ideal S1x768 .f32 from iblk m c 3 t) (ix2 0 (j 1)) := by
  rw [outsAt0_B m c t (by omega) h]
  frame_out
  rw [epiz_at]

theorem outm_at (c : Dev nD) (t : Fin cfg0.N) (h : t.val % 2 = 1) (j : S1024x768.Idx) :
    (outsAt0 m c t.val t.isLt).2.1 j = (show Vec Ideal S1024x768 .f32 from iblk m c 2 t) j
      * Ideal.div 1 (1 + Ideal.exp (-((outsAt0 m c t.val t.isLt).2.2 j + (show Vec Ideal S1x768 .f32 from iblk m c 3 t) (ix2 0 (j 1))))) := by
  rw [outsAt0_B m c t (by omega) h]
  frame_out
  rw [epim_at]

theorem idx2 : ∀ t : Fin cfg0.N, win0_2.index t = ![t.val / 4, t.val / 2 % 2] ∧ win0_3.index t = ![0, t.val / 2 % 2]
    ∧ win0_5.index t = ![t.val / 4, t.val / 2 % 2] :=
  (by decide +kernel : ∀ t : Fin grid0.N, _)

/-- The bias as the call takes it: a row. -/
def row (c : Dev nD) : FVec Ideal S1x1536 .f32 := shapeCast S1x1536 (m ((c : Thread nD τ).loc main_arg2) : FVec Ideal S1536 .f32) shapeCasts_S1536_S1x1536

theorem V_row (c : Dev nD) : V m c main_v0 = row m c := by
  entry_read
  rfl

theorem row_at (c : Dev nD) (j : S1x1536.Idx) : row m c j = m ((c : Thread nD τ).loc main_arg2) (ix1 (j 1)) := by
  pointwise [row]

/-- The gate's argument in a block is the reference's. -/
theorem arg_at (c : Dev nD) (t : Fin cfg0.N) (h : t.val % 2 = 1) (y : S1024x768.Idx) (z : S8192x1536.Idx)
    (h0 : (z 0).val = t.val / 4 * 1024 + (y 0).val) (h1 : (z 1).val = t.val / 2 % 2 * 768 + (y 1).val) :
    (outsAt0 m c t.val t.isLt).2.2 y + (show Vec Ideal S1x768 .f32 from iblk m c 3 t) (ix2 0 (y 1))
      = Cert.Reference20Ideal.S5Glu.outz (m ((c : Thread nD τ).loc main_arg0)) (m ((c : Thread nD τ).loc main_arg1)) (m ((c : Thread nD τ).loc main_arg2)) z := by
  rw [scratch_at m c t h, Cert.Reference20Ideal.S5Glu.outz_at]
  refine congr (congrArg (HAdd.hAdd (α := EReal)) ?_) ?_
  · refine Fin.sum_mul_add_congr fun s k hl => ?_
    refine congr (congrArg (HMul.hMul (α := EReal)) ?_) ?_
    · refine (congrFun (V_main_arg0 m c) _).trans (congrArg (m ((c : Thread nD τ).loc main_arg0)) ?_)
      blk_ext [idx t, idx ⟨_, Pipeline.run_point_lt_of_flush t h s⟩]
    · refine (congrFun (V_main_arg1 m c) _).trans (congrArg (m ((c : Thread nD τ).loc main_arg1)) ?_)
      blk_ext [idx t, idx ⟨_, Pipeline.run_point_lt_of_flush t h s⟩]
  · refine (congrFun (V_row m c) _).trans ((row_at m c _).trans (congrArg (m ((c : Thread nD τ).loc main_arg2)) ?_))
    blk_ext [idx t, idx2 t]

theorem finalz (c : Dev nD) : (dats m 0 c).arrAt 4 cfg0.N = Cert.Reference20Ideal.S5Glu.outz (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4, outz_at m c t h]
  refine arg_at m c t h _ _ ?_ ?_ <;> blk_ext [idx t]

theorem finalm (c : Dev nD) : (dats m 0 c).arrAt 5 cfg0.N = Cert.Reference20Ideal.S5Glu.outm (m ((c : Thread nD τ).loc main_arg0)) (m ((c : Thread nD τ).loc main_arg1)) (m ((c : Thread nD τ).loc main_arg2)) := by
  refine (dats m 0 c).arrAt_eq_of_covers 5 _ (by decide +kernel) fun t hf y => ?_
  have h := (flush0_5 t).mp hf
  blk_simp
  rw [after0_5, outm_at m c t h, Cert.Reference20Ideal.S5Glu.outm_at]
  refine congr (congrArg (HMul.hMul (α := EReal)) ?_) (congrArg (fun e : EReal => Ideal.div 1 (1 + Ideal.exp (-e))) ?_)
  · refine (congrFun (V_main_arg0 m c) _).trans (congrArg (m ((c : Thread nD τ).loc main_arg0)) ?_)
    blk_ext [idx t, idx2 t]
  · refine arg_at m c t h _ _ ?_ ?_ <;> blk_ext [idx2 t]

end Cert.Kernel20Ideal.S5Glu

end
-- ==== Proof.S5Dwglu.lean ====
/-
  The gradient of the S5 mixer's gate at its weight, `ygᵀ · dz`: each block adds up eight products of blocks over the
  positions.
-/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack

@[expose] public section

set_option maxRecDepth 16384

noncomputable section

namespace Cert.Reference21Ideal.S5Dwglu

open Cert.Reference21Ideal Cert.Reference21Ideal.Gen Idealize.ShloMosaic

/-- The reference's array, and its entries as sums. -/
abbrev out (p : FVec Ideal S8192x1536 .f32) (q : FVec Ideal S8192x1536 .f32) : FVec Ideal S1536x1536 .f32 :=
  transpose S1536x1536 [1, 0] (Host.dotGeneral (F := Ideal) dot_S8192x1536_S8192x1536_S1536x1536_0_0_1_1_n_n none q p) transposes_S1536x1536_S1536x1536_1_0

theorem out_at (p : FVec Ideal S8192x1536 .f32) (q : FVec Ideal S8192x1536 .f32) (j : S1536x1536.Idx) :
    out p q j = ∑ k : Fin 8192, p (ix2 k (j 0)) * q (ix2 k (j 1)) := by
  pointwise [out]
  refine Finset.sum_congr rfl fun k _ => mul_comm _ _

end Cert.Reference21Ideal.S5Dwglu

namespace Cert.Kernel21Ideal.S5Dwglu

open Cert.Kernel21Ideal Cert.Kernel21Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' places at every point. -/
theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

/-- The accumulator is zeroed with zeros. -/
theorem zero_at (j) : k0_pay1 (F := Ideal) j = 0 := by pointwise [k0_pay1]

/-- A point adds the product of its two blocks. -/
theorem add_at (acc : Vec Ideal S768x768 .f32) (x : Vec Ideal S1024x768 .f32) (y : Vec Ideal S1024x768 .f32) (j) :
    k0_pay2 (F := Ideal) acc x y j = acc j + ∑ k : Fin 1024, x (ix2 k (j 0)) * y (ix2 k (j 1)) := by
  pointwise [k0_pay2]

/-- The accumulator after the last of the 8 points of a block's run. -/
theorem scratch_at (c : Dev nD) (t : Fin cfg0.N) (h : t.val % 8 = 7) (j : S768x768.Idx) :
    (outsAt0 m c t.val t.isLt).2 j
      = ∑ s : Fin 8, ∑ k : Fin 1024, (show Vec Ideal S1024x768 .f32 from iblk m c 0 ⟨8 * (t.val / 8) + s.val, Pipeline.run_point_lt_of_flush t h s⟩) (ix2 k (j 0))
          * (show Vec Ideal S1024x768 .f32 from iblk m c 1 ⟨8 * (t.val / 8) + s.val, Pipeline.run_point_lt_of_flush t h s⟩) (ix2 k (j 1)) := by
  rw [Pipeline.eq_sum_fin_of_reset_step_apply_of_flush (fun n h => (outsAt0 m c n h).2) 8 (fun _ => 0)
    (fun p j => ∑ k : Fin 1024, (show Vec Ideal S1024x768 .f32 from iblk m c 0 p) (ix2 k (j 0)) * (show Vec Ideal S1024x768 .f32 from iblk m c 1 p) (ix2 k (j 1)))
    (fun t h j => by rw [outsAt0_A m c t h (by omega)]; frame_out; rw [add_at, zero_at])
    (fun t h j => by
      by_cases h1 : t.val % 8 = 7
      · rw [outsAt0_C m c t h h1]; frame_out; rw [add_at]; simp only [read_unread_whole]
      · rw [outsAt0_B m c t h h1]; frame_out; rw [add_at]; simp only [read_unread_whole])
    t h j, zero_add]

/-- At that point the block written back is the accumulator. -/
theorem out_at (c : Dev nD) (t : Fin cfg0.N) (h : t.val % 8 = 7) : (outsAt0 m c t.val t.isLt).1 = (outsAt0 m c t.val t.isLt).2 := by
  funext j
  rw [outsAt0_C m c t (by omega) h]
  frame_out

theorem final (c : Dev nD) : (dats m 0 c).arrAt 2 cfg0.N
    = Cert.Reference21Ideal.S5Dwglu.out (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_at m c t h, scratch_at m c t h, Cert.Reference21Ideal.S5Dwglu.out_at]
  refine Fin.sum_mul_add_congr fun s k hl => ?_
  refine congr (congrArg (HMul.hMul (α := EReal)) ?_) ?_ <;> blk_ext [iblk, V, idx t, idx ⟨_, Pipeline.run_point_lt_of_flush t h s⟩]

end Cert.Kernel21Ideal.S5Dwglu

end
-- ==== Proof.RowTables.lean ====
/-
  The precondition of the attention's row sums read: the two tables are the ones the frame is written at.
-/
module

public import proofs.«01_k».proof.Defs
public import proofs.«01_k».proof.Proof.Gen.Kernel22.Flash
public import proofs.«01_k».proof.Proof.Gen.Kernel22Ideal.Flash

@[expose] public section

set_option maxRecDepth 16384

noncomputable section

namespace Cert.RowTables

open Idealize.ShloMosaic Idealize.SL.Sem Idealize.ShloMosaic.TcCoe Cert.Pre_pairs

instance facts : Cert.Pre_pairs.Facts := ⟨⟩

/-- A word whose comparison with another is true is that word. -/
theorem eq_of_cmp {s : Shape} {x y : IVec s 32} (h : cmpi .eq x y = fun _ => 1#1) : x = y := by
  funext i
  have hi : BitVec.ofBool (x i == y i) = 1#1 := congrFun h i
  cases hb : x i == y i
  · rw [hb] at hi; exact absurd hi (by decide)
  · exact eq_of_beq hb

/-- The two lists of words are the same words. -/
theorem lit0_eq : ∀ i : Fin 136, lit0 i = Cert.Kernel22.Gen.pinT_0 0 (S136.rowMajor.symm i) := by decide +kernel
theorem lit1_eq : ∀ i : Fin 136, lit1 i = Cert.Kernel22.Gen.pinT_1 0 (S136.rowMajor.symm i) := by decide +kernel

theorem lit0_at (i : S136.Idx) : lit0 (S136.rowMajor i) = Cert.Kernel22.Gen.pinT_0 0 i :=
  (lit0_eq (S136.rowMajor i)).trans (congrArg (Cert.Kernel22.Gen.pinT_0 0) (Equiv.symm_apply_apply S136.rowMajor i))
theorem lit1_at (i : S136.Idx) : lit1 (S136.rowMajor i) = Cert.Kernel22.Gen.pinT_1 0 i :=
  (lit1_eq (S136.rowMajor i)).trans (congrArg (Cert.Kernel22.Gen.pinT_1 0) (Equiv.symm_apply_apply S136.rowMajor i))

theorem pinned (m : (ℓ : Loc Cert.Kernel22.nD Cert.Kernel22.τ Cert.Kernel22.sig) → Buf (Elt Bits) ℓ) (h : Cert.Pre_Kernel22 m) :
    Cert.Kernel22.Gen.Pinned 0 m :=
  ⟨fun c => (eq_of_cmp (h c).1).trans (funext lit0_at), fun c => (eq_of_cmp (h c).2).trans (funext lit1_at)⟩

theorem pinned_ideal (m : (ℓ : Loc Cert.Kernel22Ideal.nD Cert.Kernel22Ideal.τ Cert.Kernel22Ideal.sig) → Buf (Elt Ideal) ℓ)
    (h : Cert.Pre_Kernel22Ideal m) : Cert.Kernel22Ideal.Gen.Pinned 0 m :=
  ⟨fun c => (eq_of_cmp (h c).1).trans (funext lit0_at), fun c => (eq_of_cmp (h c).2).trans (funext lit1_at)⟩

end Cert.RowTables

end
-- ==== Proof.ExtendedReals.lean ====
/-
  Facts about sums and products of extended reals: a nonnegative real factor goes in and out of a sum, a sum of reals is
  the real sum, the maximum of finitely many reals is one of them, and a sum over tiles of sums over their rows is the sum
  over all rows.
-/
module

public import Idealize.ShloMosaic.Lib.Pointwise

@[expose] public section

noncomputable section

namespace Cert.ExtendedReals

open Idealize.ShloMosaic
open scoped BigOperators

/-- A nonnegative real factor distributes over a sum of extended reals. -/
theorem mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The same with the factor on the right. -/
theorem sum_mul {ι : Type} (s : Finset ι) (f : ι → EReal) {r : ℝ} (hr : 0 ≤ r) :
    (∑ i ∈ s, f i) * (r : EReal) = ∑ i ∈ s, f i * (r : EReal) := by
  rw [mul_comm, mul_sum s f hr]
  exact Finset.sum_congr rfl fun i _ => mul_comm _ _

/-- A nonnegative real factor distributes over a difference. -/
theorem mul_sub {r : ℝ} (hr : 0 ≤ r) (a b : EReal) : (r : EReal) * (a - b) = (r : EReal) * a + -((r : EReal) * b) := by
  rw [sub_eq_add_neg, EReal.left_distrib_of_nonneg_of_ne_top (by exact_mod_cast hr) (EReal.coe_ne_top r), mul_neg]

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is one of them. -/
theorem fold_max_coe {n : ℕ} (f : Fin n → ℝ) (i₀ : Fin n) :
    ∃ i : Fin n, (Finset.univ : Finset (Fin n)).fold max (⊥ : EReal) (fun j => (f j : EReal)) = (f i : EReal) := by
  have hne : (Finset.univ : Finset (Fin n)).Nonempty := ⟨i₀, Finset.mem_univ _⟩
  obtain ⟨i, -, hi⟩ := Finset.exists_mem_eq_sup' hne (fun j => (f j : EReal))
  refine ⟨i, ?_⟩
  rw [← hi]
  apply le_antisymm
  · rw [Finset.fold_max_le]
    exact ⟨bot_le, fun j hj => Finset.le_sup' (fun j => (f j : EReal)) hj⟩
  · apply Finset.sup'_le
    intro j hj
    exact (Finset.le_fold_max (β := EReal) _).mpr (Or.inr ⟨j, hj, le_refl _⟩)

/-- A sum over `K` tiles of the sums over their `R` rows is the sum over all `K * R` rows. -/
theorem sum_tiles (K R N : ℕ) (hN : K * R = N) (f : Fin N → EReal) (hlt : ∀ (i : Fin K) (r : Fin R), R * i.val + r.val < N) :
    ∑ i : Fin K, ∑ r : Fin R, f ⟨R * i.val + r.val, hlt i r⟩ = ∑ s : Fin N, f s := by
  subst hN
  rw [← Fintype.sum_prod_type']
  refine Fintype.sum_equiv finProdFinEquiv _ _ fun p => ?_
  congr 1
  apply Fin.ext
  show R * p.1.val + p.2.val = p.2.val + R * p.1.val
  omega

end Cert.ExtendedReals

end
-- ==== Proof.Softmax.lean ====
/-
  One row of softmax attention over the extended reals and its gradient. `q` is the query of the row, `k j`, `v j` the key
  and the value of place `j`, `d` the cotangent of the row's output, `c` the logits' scale. The gradient with respect to
  the logits is written in two ways: `slope`, `p · (dp − ∑ p · dp)`, which is how a kernel writes it, and `slopeVjp`, which
  is how differentiating `exp` and the quotient `e / ∑ e` writes it. They are equal when the query and the keys are real
  (`slope_eq`), whatever the values and the cotangent are.
-/
module

public import proofs.«01_k».proof.Proof.ExtendedReals
public import Idealize.ShloMosaic.Lib.IdealHost

@[expose] public section

noncomputable section

namespace Cert.Softmax

open Idealize.ShloMosaic
open scoped BigOperators

variable {n w : ℕ}

/-- The logits' scale, the word nearest to 1/√128. -/
abbrev scale : EReal := Ideal.ofBits FTy.f32 1035273459#32

/-- It is a nonnegative real. -/
theorem scale_real : ∃ r : ℝ, 0 ≤ r ∧ scale = (r : EReal) := by
  refine ⟨11863283 / 134217728, by norm_num, ?_⟩
  unfold scale
  simp [Ideal.ofBits, Ideal.ieee, -EReal.coe_mul]
  norm_num

/-- The word of minus infinity is `⊥`. -/
theorem neg_inf : Ideal.ofBits FTy.f32 4286578688#32 = (⊥ : EReal) := by
  unfold Ideal.ofBits Ideal.ieee
  simp

/-- The logit of place `j`. -/
def logit (q : Fin w → EReal) (k : Fin n → Fin w → EReal) (j : Fin n) : EReal := (∑ x, q x * k j x) * scale

/-- The row's exponentials, their maximum taken off first. -/
def ew (q : Fin w → EReal) (k : Fin n → Fin w → EReal) (j : Fin n) : EReal :=
  Ideal.exp (logit q k j - Finset.univ.fold max (Ideal.ofBits FTy.f32 4286578688#32) fun x => logit q k x)

/-- The row's weights. -/
def pr (q : Fin w → EReal) (k : Fin n → Fin w → EReal) (j : Fin n) : EReal := Ideal.div (ew q k j) (∑ x, ew q k x)

/-- The cotangent of the weight of place `j`. -/
def dp (v : Fin n → Fin w → EReal) (d : Fin w → EReal) (j : Fin n) : EReal := ∑ x, d x * v j x

/-- The cotangent of the logits as a kernel writes it. -/
def slope (q : Fin w → EReal) (k v : Fin n → Fin w → EReal) (d : Fin w → EReal) (j : Fin n) : EReal :=
  pr q k j * (dp v d j - ∑ x, pr q k x * dp v d x)

/-- The cotangent of the logits as differentiation writes it. -/
def slopeVjp (q : Fin w → EReal) (k v : Fin n → Fin w → EReal) (d : Fin w → EReal) (j : Fin n) : EReal :=
  (Ideal.div (dp v d j) (∑ x, ew q k x)
    + ∑ _x : Fin 1, -∑ x, dp v d x * Ideal.div 1 ((∑ y, ew q k y) * ∑ y, ew q k y) * ew q k x) * ew q k j

/-- A real query and real keys have real logits. -/
theorem logit_real (q : Fin w → EReal) (k : Fin n → Fin w → EReal) (hq : ∀ x, ∃ r : ℝ, q x = (r : EReal))
    (hk : ∀ j x, ∃ r : ℝ, k j x = (r : EReal)) (j : Fin n) : ∃ r : ℝ, logit q k j = (r : EReal) := by
  choose q' hq' using hq
  choose k' hk' using hk
  obtain ⟨c, -, hc⟩ := scale_real
  refine ⟨(∑ x, q' x * k' j x) * c, ?_⟩
  unfold logit
  rw [hc, EReal.coe_mul, ExtendedReals.coe_sum]
  congr 1
  refine Finset.sum_congr rfl fun x _ => ?_
  rw [hq', hk', EReal.coe_mul]

/-- So the exponentials are positive reals. -/
theorem ew_real (q : Fin w → EReal) (k : Fin n → Fin w → EReal) (hq : ∀ x, ∃ r : ℝ, q x = (r : EReal))
    (hk : ∀ j x, ∃ r : ℝ, k j x = (r : EReal)) : ∃ e : Fin n → ℝ, ∀ j, 0 < e j ∧ ew q k j = (e j : EReal) := by
  choose s hs using logit_real q k hq hk
  by_cases hn : Nonempty (Fin n)
  · obtain ⟨i₀⟩ := hn
    obtain ⟨i, hi⟩ := ExtendedReals.fold_max_coe s i₀
    refine ⟨fun j => Real.exp (s j - s i), fun j => ⟨Real.exp_pos _, ?_⟩⟩
    unfold ew
    rw [neg_inf]
    simp only [hs]
    rw [hi, ← EReal.coe_sub]
    rfl
  · exact ⟨fun _ => 1, fun j => (hn ⟨j⟩).elim⟩

/-- The two ways of writing the cotangent of the logits agree. -/
theorem slope_eq (q : Fin w → EReal) (k v : Fin n → Fin w → EReal) (d : Fin w → EReal)
    (hq : ∀ x, ∃ r : ℝ, q x = (r : EReal)) (hk : ∀ j x, ∃ r : ℝ, k j x = (r : EReal)) (j : Fin n) :
    slopeVjp q k v d j = slope q k v d j := by
  obtain ⟨e, he⟩ := ew_real q k hq hk
  have hpos : 0 < ∑ x, e x := Finset.sum_pos (fun x _ => (he x).1) ⟨j, Finset.mem_univ _⟩
  have hL : ∑ x, ew q k x = ((∑ x, e x : ℝ) : EReal) := by
    rw [ExtendedReals.coe_sum]
    exact Finset.sum_congr rfl fun x _ => (he x).2
  generalize ∑ x, e x = L at hpos hL
  have hne : L ≠ 0 := hpos.ne'
  have hw : (0 : ℝ) ≤ 1 / L := by positivity
  have hp : ∀ x, pr q k x = ((1 / L : ℝ) : EReal) * (e x : EReal) := fun x => by
    unfold pr
    rw [hL, Ideal.div_coe hne, (he x).2, mul_comm]
  have hsum : ∑ x, dp v d x * Ideal.div 1 ((L : EReal) * (L : EReal)) * ew q k x
      = ((1 / L : ℝ) : EReal) * ∑ x, pr q k x * dp v d x := by
    rw [ExtendedReals.mul_sum _ _ hw]
    refine Finset.sum_congr rfl fun x _ => ?_
    rw [hp, (he x).2, ← EReal.coe_mul, Ideal.div_coe (mul_ne_zero hne hne), one_mul,
      show (1 / (L * L) : ℝ) = 1 / L * (1 / L) by rw [one_div_mul_one_div], EReal.coe_mul]
    rw [mul_comm (dp v d x), mul_assoc, mul_assoc, mul_assoc, mul_comm (dp v d x)]
  unfold slopeVjp slope
  rw [hL, hsum, Ideal.div_coe hne, Fin.sum_univ_one, hp j, (he j).2,
    mul_comm (((1 / L : ℝ) : EReal)) (e j : EReal), mul_assoc, ExtendedReals.mul_sub hw, mul_comm (e j : EReal),
    mul_comm (dp v d j)]

end Cert.Softmax

end
-- ==== Proof.RowPoint.lean ====
module

public import proofs.«01_k».proof.Proof.Gen.Kernel22Ideal.Skeleton
public import proofs.«01_k».proof.Proof.Softmax
public import Idealize.ShloMosaic.Lib.WordCmp

@[expose] public section

set_option maxRecDepth 16384

noncomputable section

namespace Cert.Kernel22Ideal.RowPoint

open Cert.Kernel22Ideal Cert.Kernel22Ideal.Gen Cert.Softmax
open Idealize.ShloMosaic

variable (q d k v : Vec Ideal S512x128 .f32) (cq lse prev : Vec Ideal S1x512x1 .f32) (ck : Vec Ideal S1x1x512 .f32)

/-- A logit of a pair of tiles. -/
def sc (r s : Fin 512) : EReal := (∑ x, q (ix2 r x) * scale * k (ix2 s x)) + cq (ix3 0 r 0) - ck (ix3 0 0 s)

/-- The same on the diagonal, where a key after the query counts for nothing. -/
def msc (r s : Fin 512) : EReal := if s.val ≤ r.val then sc q k cq ck r s else ⊥

/-- What a pair of tiles adds to a query's sum, `l` being its logits. -/
def part (l : Fin 512 → Fin 512 → EReal) (r : Fin 512) : EReal :=
  ∑ s, Ideal.exp (l r s - lse (ix3 0 r 0)) * ∑ x, d (ix2 r x) * v (ix2 s x)

theorem sc4 (r s : Fin 512) : k0_pay4 q k cq ck (ix2 r s) = sc q k cq ck r s := by
  unfold sc
  pointwise [k0_pay4]
theorem sc5 (r s : Fin 512) : k0_pay5 q k cq ck (ix2 r s) = sc q k cq ck r s := by
  unfold sc
  pointwise [k0_pay5]
theorem sc9 (r s : Fin 512) : k0_pay9 q k cq ck (ix2 r s) = sc q k cq ck r s := by
  unfold sc
  pointwise [k0_pay9]

/-- A choice by the order of two places of a tile. -/
theorem choose {n : ℕ} (hn : n ≤ 8192) (r s : Fin n) (a b : EReal) :
    Scalar.select (IntOp.cmpi .sge (BitVec.ofNat 32 r.val) (BitVec.ofNat 32 s.val)) a b = if s.val ≤ r.val then a else b := by
  rw [WordCmp.cmpi_sge_ofNat (by omega) (by omega)]
  by_cases h : s.val ≤ r.val <;> simp [h, Scalar.select]

theorem sc8 (r s : Fin 512) : k0_pay8 q k cq ck (ix2 r s) = msc q k cq ck r s := by
  unfold msc sc
  pointwise [k0_pay8]
  rw [choose (by norm_num), neg_inf]

theorem add6 (l : FVec Ideal S512x512 .f32) (r : Fin 512) :
    k0_pay6 l d v lse prev (ix3 0 r 0) = prev (ix3 0 r 0) + part d v lse (fun r s => l (ix2 r s)) r := by
  unfold part
  pointwise [k0_pay6]

theorem add7 (l : FVec Ideal S512x512 .f32) (r : Fin 512) :
    k0_pay2 (k0_pay7 l d v lse prev) (ix3 0 r 0) = prev (ix3 0 r 0) + part d v lse (fun r s => l (ix2 r s)) r := by
  unfold part
  pointwise [k0_pay2, k0_pay7]

theorem add12 (l : FVec Ideal S512x512 .f32) (r : Fin 512) :
    k0_pay12 l d v lse prev (ix3 0 r 0) = prev (ix3 0 r 0) + part d v lse (fun r s => l (ix2 r s)) r := by
  unfold part
  pointwise [k0_pay12]

theorem add3 (l : FVec Ideal S512x512 .f32) (r : Fin 512) : k0_pay3 (k0_pay10 d v) (k0_pay11 l lse) prev (ix3 0 r 0)
    = prev (ix3 0 r 0) + part d v lse (fun r s => if s.val ≤ r.val then l (ix2 r s) else ⊥) r := by
  unfold part
  pointwise [k0_pay3, k0_pay10, k0_pay11]
  simp only [choose (n := 512) (by norm_num), neg_inf]

theorem zero (b : Fin 2) (r : Fin 512) : k0_pay1 (F := Ideal) (ix3 b r 0) = 0 := by
  pointwise [k0_pay1]

/-- The four additions, with the logits each takes. -/
theorem free0 (r : Fin 512) : k0_pay6 (k0_pay4 q k cq ck) d v lse prev (ix3 0 r 0) = prev (ix3 0 r 0) + part d v lse (sc q k cq ck) r := by
  simp only [add6, sc4]
theorem free1 (r : Fin 512) : k0_pay2 (k0_pay7 (k0_pay5 q k cq ck) d v lse prev) (ix3 0 r 0) = prev (ix3 0 r 0) + part d v lse (sc q k cq ck) r := by
  simp only [add7, sc5]
theorem diag0 (r : Fin 512) : k0_pay12 (k0_pay8 q k cq ck) d v lse prev (ix3 0 r 0) = prev (ix3 0 r 0) + part d v lse (msc q k cq ck) r := by
  simp only [add12, sc8]
theorem diag1 (r : Fin 512) : k0_pay3 (k0_pay10 d v) (k0_pay11 (k0_pay9 q k cq ck) lse) prev (ix3 0 r 0)
    = prev (ix3 0 r 0) + part d v lse (msc q k cq ck) r := by
  simp only [add3, sc9]
  rfl

end Cert.Kernel22Ideal.RowPoint
end
-- ==== Proof.RowBody.lean ====
/-
  What one point of the row sums' kernel leaves in its block, at each of the four courses a point can take: the first pair
  of tiles of a row starts from zero, a pair on the diagonal masks its logits.
-/
module

public import proofs.«01_k».proof.Proof.RowPoint
public import proofs.«01_k».proof.Proof.Gen.Kernel22Ideal.Flash
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel22Ideal.RowBody

open Cert.Kernel22Ideal Cert.Kernel22Ideal.Gen Cert.Kernel22Ideal.RowPoint

/-- One head's half of a block of two heads. -/
def half (b : Fin 2) (X : S512x256.Idx → Elt Ideal .f32) : Vec Ideal S512x128 .f32 :=
  fun y => X (ix2 (n0 := 512) (y 0) (⟨128 * b.val + (y 1).val, by have : (y 1).val < 128 := (y 1).isLt; omega⟩ : Fin 256))
def rows (b : Fin 2) (X : S2x512x1.Idx → Elt Ideal .f32) : Vec Ideal S1x512x1 .f32 := fun y => X (ix3 b (y 1) 0)
def keys (b : Fin 2) (X : S2x1x512.Idx → Elt Ideal .f32) : Vec Ideal S1x1x512 .f32 := fun y => X (ix3 b 0 (y 2))

/-- The loads of a block's halves. -/
theorem half_0 (v : View sig .tc .vmem S512x256 .f32) (X : S512x256.Idx → Elt Ideal .f32) (inb) :
    v.readAt (Elt Ideal) (Rect.unit (s := S512x256) ![0, 0] S512x128.size inb).toLoadRect (v.rep X) = half 0 X := by
  rw [View.readAt_rep]
  funext y
  refine congrArg X (funext fun a => Fin.ext ?_)
  fin_cases a <;> simp [half, Rect.unit, ix2]
theorem half_1 (v : View sig .tc .vmem S512x256 .f32) (X : S512x256.Idx → Elt Ideal .f32) (inb) :
    v.readAt (Elt Ideal) (Rect.unit (s := S512x256) ![0, 128] S512x128.size inb).toLoadRect (v.rep X) = half 1 X := by
  rw [View.readAt_rep]
  funext y
  refine congrArg X (funext fun a => Fin.ext ?_)
  fin_cases a <;> simp [half, Rect.unit, ix2]
theorem rows_0 (v : View sig .tc .vmem S2x512x1 .f32) (X : S2x512x1.Idx → Elt Ideal .f32) (inb) :
    v.readAt (Elt Ideal) (Rect.unit (s := S2x512x1) ![0, 0, 0] S1x512x1.size inb).toLoadRect (v.rep X) = rows 0 X := by
  rw [View.readAt_rep]
  funext y
  refine congrArg X (funext fun a => Fin.ext ?_)
  have h0 : (y 0).val < 1 := (y 0).isLt
  have h2 : (y 2).val < 1 := (y 2).isLt
  fin_cases a <;> simp [Rect.unit, ix3] <;> omega
theorem keys_0 (v : View sig .tc .vmem S2x1x512 .f32) (X : S2x1x512.Idx → Elt Ideal .f32) (inb) :
    v.readAt (Elt Ideal) (Rect.unit (s := S2x1x512) ![0, 0, 0] S1x1x512.size inb).toLoadRect (v.rep X) = keys 0 X := by
  rw [View.readAt_rep]
  funext y
  refine congrArg X (funext fun a => Fin.ext ?_)
  have h0 : (y 0).val < 1 := (y 0).isLt
  have h1 : (y 1).val < 1 := (y 1).isLt
  fin_cases a <;> simp [Rect.unit, ix3] <;> omega
theorem idx_0 (inb) (r : Fin 512) : (Rect.unit (s := S2x512x1) ![0, 0, 0] S1x512x1.size inb).toLoadRect.idx (ix3 0 r 0) = ix3 0 r 0 :=
  funext fun a => Fin.ext (by fin_cases a <;> simp [Rect.unit, ix3])
theorem emb_0 (inb) (r : Fin 512) : (Rect.unit (s := S2x512x1) ![0, 0, 0] S1x512x1.size inb).emb (ix3 0 r 0) = ix3 0 r 0 :=
  idx_0 inb r
theorem rows_1 (v : View sig .tc .vmem S2x512x1 .f32) (X : S2x512x1.Idx → Elt Ideal .f32) (inb) :
    v.readAt (Elt Ideal) (Rect.unit (s := S2x512x1) ![1, 0, 0] S1x512x1.size inb).toLoadRect (v.rep X) = rows 1 X := by
  rw [View.readAt_rep]
  funext y
  refine congrArg X (funext fun a => Fin.ext ?_)
  have h0 : (y 0).val < 1 := (y 0).isLt
  have h2 : (y 2).val < 1 := (y 2).isLt
  fin_cases a <;> simp [Rect.unit, ix3] <;> omega
theorem keys_1 (v : View sig .tc .vmem S2x1x512 .f32) (X : S2x1x512.Idx → Elt Ideal .f32) (inb) :
    v.readAt (Elt Ideal) (Rect.unit (s := S2x1x512) ![1, 0, 0] S1x1x512.size inb).toLoadRect (v.rep X) = keys 1 X := by
  rw [View.readAt_rep]
  funext y
  refine congrArg X (funext fun a => Fin.ext ?_)
  have h0 : (y 0).val < 1 := (y 0).isLt
  have h1 : (y 1).val < 1 := (y 1).isLt
  fin_cases a <;> simp [Rect.unit, ix3] <;> omega
theorem idx_1 (inb) (r : Fin 512) : (Rect.unit (s := S2x512x1) ![1, 0, 0] S1x512x1.size inb).toLoadRect.idx (ix3 0 r 0) = ix3 1 r 0 :=
  funext fun a => Fin.ext (by fin_cases a <;> simp [Rect.unit, ix3])
theorem emb_1 (inb) (r : Fin 512) : (Rect.unit (s := S2x512x1) ![1, 0, 0] S1x512x1.size inb).emb (ix3 0 r 0) = ix3 1 r 0 :=
  idx_1 inb r
theorem idx_z (inb) (b : Fin 2) (r : Fin 512) : (Rect.unit (s := S2x512x1) ![0, 0, 0] S2x512x1.size inb).toLoadRect.idx (ix3 b r 0) = ix3 b r 0 :=
  funext fun a => Fin.ext (by fin_cases a <;> simp [Rect.unit, ix3])
theorem emb_z (inb) (b : Fin 2) (r : Fin 512) : (Rect.unit (s := S2x512x1) ![0, 0, 0] S2x512x1.size inb).emb (ix3 b r 0) = ix3 b r 0 :=
  idx_z inb b r

/-- The places of one head's rows are not the other's. -/
theorem apart (inb) (r : Fin 512) : (ix3 (0 : Fin 2) r (0 : Fin 1) : S2x512x1.Idx) ∉ (Rect.unit (s := S2x512x1) ![1, 0, 0] S1x512x1.size inb).set := by
  rw [Rect.mem_set_unit]
  intro h
  have := (h 0).1
  simp [ix3] at this
theorem apart' (inb) (r : Fin 512) : (ix3 (1 : Fin 2) r (0 : Fin 1) : S2x512x1.Idx) ∉ (Rect.unit (s := S2x512x1) ![0, 0, 0] S1x512x1.size inb).set := by
  rw [Rect.mem_set_unit]
  intro h
  have := (h 0).2
  simp [ix3] at this

/-- The two stores of a point, read at a row of one head or of the other. -/
theorem last (inb) (w : S1x512x1.Idx → Elt Ideal .f32) (L : List (View.Piece (Elt Ideal) S2x512x1 .f32)) (r : Fin 512) :
    View.canon ((⟨Rect.unit (s := S2x512x1) ![1, 0, 0] S1x512x1.size inb, w⟩ : View.Piece (Elt Ideal) S2x512x1 .f32) :: L) (ix3 1 r 0) = w (ix3 0 r 0) := by
  rw [← emb_1 inb r]
  exact View.canon_cons_emb (Rect.unit (s := S2x512x1) ![1, 0, 0] S1x512x1.size inb) w L (ix3 0 r 0)
theorem first (inb inb') (w w' : S1x512x1.Idx → Elt Ideal .f32) (L : List (View.Piece (Elt Ideal) S2x512x1 .f32)) (r : Fin 512) :
    View.canon ((⟨Rect.unit (s := S2x512x1) ![1, 0, 0] S1x512x1.size inb, w⟩ : View.Piece (Elt Ideal) S2x512x1 .f32)
      :: (⟨Rect.unit (s := S2x512x1) ![0, 0, 0] S1x512x1.size inb', w'⟩ : View.Piece (Elt Ideal) S2x512x1 .f32) :: L) (ix3 0 r 0) = w' (ix3 0 r 0) := by
  rw [View.canon_cons_of_not_mem (⟨Rect.unit (s := S2x512x1) ![1, 0, 0] S1x512x1.size inb, w⟩ : View.Piece (Elt Ideal) S2x512x1 .f32) _ (apart inb r), ← emb_0 inb' r]
  exact View.canon_cons_emb (Rect.unit (s := S2x512x1) ![0, 0, 0] S1x512x1.size inb') w' L (ix3 0 r 0)

/-- The earlier sums a point at the start of a row loads: zero. -/
theorem start_0 (v : View sig .tc .vmem S2x512x1 .f32) (inb inb') (r : Fin 512) :
    v.readCov [(⟨Rect.unit (s := S2x512x1) ![0, 0, 0] S2x512x1.size inb, k0_pay1 (F := Ideal)⟩ : View.Piece (Elt Ideal) S2x512x1 .f32)]
      (Rect.unit (s := S2x512x1) ![0, 0, 0] S1x512x1.size inb').toLoadRect (ix3 0 r 0) = 0 := by
  rw [View.readCov_eq_canon']
  show View.canon _ _ = _
  rw [idx_0, ← emb_z inb 0 r, View.canon_cons_emb]
  exact zero 0 r
theorem start_1 (v : View sig .tc .vmem S2x512x1 .f32) (inb inb' inb'') (w : S1x512x1.Idx → Elt Ideal .f32) (r : Fin 512) :
    v.readCov [(⟨Rect.unit (s := S2x512x1) ![0, 0, 0] S1x512x1.size inb'', w⟩ : View.Piece (Elt Ideal) S2x512x1 .f32),
        ⟨Rect.unit (s := S2x512x1) ![0, 0, 0] S2x512x1.size inb, k0_pay1 (F := Ideal)⟩]
      (Rect.unit (s := S2x512x1) ![1, 0, 0] S1x512x1.size inb').toLoadRect (ix3 0 r 0) = 0 := by
  rw [View.readCov_eq_canon']
  show View.canon _ _ = _
  rw [idx_1, View.canon_cons_of_not_mem (⟨Rect.unit (s := S2x512x1) ![0, 0, 0] S1x512x1.size inb'', w⟩ : View.Piece (Elt Ideal) S2x512x1 .f32) _ (apart' inb'' r), ← emb_z inb 1 r, View.canon_cons_emb]
  exact zero 1 r

/-- The earlier sums a later point loads. -/
theorem kept_0 (M : Memref sig .tc .vmem S2x512x1 .f32) (hM : M.IsWhole) (X : S2x512x1.Idx → Elt Ideal .f32) (inb) (r : Fin 512) :
    M.view.readAt (Elt Ideal) (Rect.unit (s := S2x512x1) ![0, 0, 0] S1x512x1.size inb).toLoadRect (hM.unread X) (ix3 0 r 0) = X (ix3 0 r 0) := by
  rw [View.readAt_apply, hM.read_unread, idx_0]
theorem kept_1 (M : Memref sig .tc .vmem S2x512x1 .f32) (hM : M.IsWhole) (X : S2x512x1.Idx → Elt Ideal .f32) (inb) (r : Fin 512) :
    M.view.readAt (Elt Ideal) (Rect.unit (s := S2x512x1) ![1, 0, 0] S1x512x1.size inb).toLoadRect (hM.unread X) (ix3 0 r 0) = X (ix3 1 r 0) := by
  rw [View.readAt_apply, hM.read_unread, idx_1]

variable (ch : Fin 1) (m : (ℓ : Loc nD τ sig) → Buf (Elt Ideal) ℓ) (ρ : Dev nD → PrngReg) (c : Dev nD) (t : Fin (cfgA ch).N)
  (prev : S2x512x1.Idx → Elt Ideal .f32)

/-- The blocks at their literal types. -/
abbrev bq : S512x256.Idx → Elt Ideal .f32 := iblk ch m ρ c 0 t
abbrev bk : S512x256.Idx → Elt Ideal .f32 := iblk ch m ρ c 1 t
abbrev bv : S512x256.Idx → Elt Ideal .f32 := iblk ch m ρ c 2 t
abbrev bd : S512x256.Idx → Elt Ideal .f32 := iblk ch m ρ c 3 t
abbrev bl : S2x512x1.Idx → Elt Ideal .f32 := iblk ch m ρ c 4 t
abbrev bc : S2x512x1.Idx → Elt Ideal .f32 := iblk ch m ρ c 5 t
abbrev bf : S2x1x512.Idx → Elt Ideal .f32 := iblk ch m ρ c 6 t

/-- What a point adds to a row of head `b` of its two. -/
def free (b : Fin 2) (r : Fin 512) : EReal :=
  part (half b (bd ch m ρ c t)) (half b (bv ch m ρ c t)) (rows b (bl ch m ρ c t))
    (sc (half b (bq ch m ρ c t)) (half b (bk ch m ρ c t)) (rows b (bc ch m ρ c t)) (keys b (bf ch m ρ c t))) r
def diag (b : Fin 2) (r : Fin 512) : EReal :=
  part (half b (bd ch m ρ c t)) (half b (bv ch m ρ c t)) (rows b (bl ch m ρ c t))
    (msc (half b (bq ch m ρ c t)) (half b (bk ch m ρ c t)) (rows b (bc ch m ρ c t)) (keys b (bf ch m ρ c t))) r

theorem left_A0 (q0 : P0_0 ch t) (q1 : ¬P0_1 ch t) (r : Fin 512) :
    step0 ch m ρ c t prev (ix3 0 r 0) = 0 + diag ch m ρ c t 0 r := by
  rw [step0_A ch m ρ c t prev q0 q1]
  unfold out0_A_7
  rw [View.read_writes_eq_canon _ _ _ (fun y => cover0_A_7 ..)]
  unfold kernelRun0_A
  dsimp only
  sl_unfold_words
  refine (first ..).trans ?_
  refine (diag0 ..).trans ?_
  refine congr (congrArg (HAdd.hAdd (α := EReal)) ?_) ?_
  · exact start_0 ..
  · unfold diag
    rw [half_0 _ (bq ch m ρ c t), half_0 _ (bk ch m ρ c t), half_0 _ (bv ch m ρ c t), half_0 _ (bd ch m ρ c t), rows_0 _ (bl ch m ρ c t),
      rows_0 _ (bc ch m ρ c t), keys_0 _ (bf ch m ρ c t)]
theorem left_A1 (q0 : P0_0 ch t) (q1 : ¬P0_1 ch t) (r : Fin 512) :
    step0 ch m ρ c t prev (ix3 1 r 0) = 0 + diag ch m ρ c t 1 r := by
  rw [step0_A ch m ρ c t prev q0 q1]
  unfold out0_A_7
  rw [View.read_writes_eq_canon _ _ _ (fun y => cover0_A_7 ..)]
  unfold kernelRun0_A
  dsimp only
  sl_unfold_words
  refine (last ..).trans ?_
  refine (diag1 ..).trans ?_
  refine congr (congrArg (HAdd.hAdd (α := EReal)) ?_) ?_
  · exact start_1 ..
  · unfold diag
    rw [half_1 _ (bq ch m ρ c t), half_1 _ (bk ch m ρ c t), half_1 _ (bv ch m ρ c t), half_1 _ (bd ch m ρ c t), rows_1 _ (bl ch m ρ c t),
      rows_1 _ (bc ch m ρ c t), keys_1 _ (bf ch m ρ c t)]
theorem left_B0 (q0 : P0_0 ch t) (q1 : P0_1 ch t) (r : Fin 512) :
    step0 ch m ρ c t prev (ix3 0 r 0) = 0 + free ch m ρ c t 0 r := by
  rw [step0_B ch m ρ c t prev q0 q1]
  unfold out0_B_7
  rw [View.read_writes_eq_canon _ _ _ (fun y => cover0_B_7 ..)]
  unfold kernelRun0_B
  dsimp only
  sl_unfold_words
  refine (first ..).trans ?_
  refine (free0 ..).trans ?_
  refine congr (congrArg (HAdd.hAdd (α := EReal)) ?_) ?_
  · exact start_0 ..
  · unfold free
    rw [half_0 _ (bq ch m ρ c t), half_0 _ (bk ch m ρ c t), half_0 _ (bv ch m ρ c t), half_0 _ (bd ch m ρ c t), rows_0 _ (bl ch m ρ c t),
      rows_0 _ (bc ch m ρ c t), keys_0 _ (bf ch m ρ c t)]
theorem left_B1 (q0 : P0_0 ch t) (q1 : P0_1 ch t) (r : Fin 512) :
    step0 ch m ρ c t prev (ix3 1 r 0) = 0 + free ch m ρ c t 1 r := by
  rw [step0_B ch m ρ c t prev q0 q1]
  unfold out0_B_7
  rw [View.read_writes_eq_canon _ _ _ (fun y => cover0_B_7 ..)]
  unfold kernelRun0_B
  dsimp only
  sl_unfold_words
  refine (last ..).trans ?_
  refine (free1 ..).trans ?_
  refine congr (congrArg (HAdd.hAdd (α := EReal)) ?_) ?_
  · exact start_1 ..
  · unfold free
    rw [half_1 _ (bq ch m ρ c t), half_1 _ (bk ch m ρ c t), half_1 _ (bv ch m ρ c t), half_1 _ (bd ch m ρ c t), rows_1 _ (bl ch m ρ c t),
      rows_1 _ (bc ch m ρ c t), keys_1 _ (bf ch m ρ c t)]
theorem left_C0 (q0 : ¬P0_0 ch t) (q1 : ¬P0_1 ch t) (r : Fin 512) :
    step0 ch m ρ c t prev (ix3 0 r 0) = prev (ix3 0 r 0) + diag ch m ρ c t 0 r := by
  rw [step0_C ch m ρ c t prev q0 q1]
  unfold out0_C_7
  rw [View.read_writes_eq_canon _ _ _ (fun y => cover0_C_7 ..)]
  unfold kernelRun0_C
  dsimp only
  sl_unfold_words
  refine (first ..).trans ?_
  refine (diag0 ..).trans ?_
  refine congr (congrArg (HAdd.hAdd (α := EReal)) ?_) ?_
  · exact kept_0 ..
  · unfold diag
    rw [half_0 _ (bq ch m ρ c t), half_0 _ (bk ch m ρ c t), half_0 _ (bv ch m ρ c t), half_0 _ (bd ch m ρ c t), rows_0 _ (bl ch m ρ c t),
      rows_0 _ (bc ch m ρ c t), keys_0 _ (bf ch m ρ c t)]
theorem left_C1 (q0 : ¬P0_0 ch t) (q1 : ¬P0_1 ch t) (r : Fin 512) :
    step0 ch m ρ c t prev (ix3 1 r 0) = prev (ix3 1 r 0) + diag ch m ρ c t 1 r := by
  rw [step0_C ch m ρ c t prev q0 q1]
  unfold out0_C_7
  rw [View.read_writes_eq_canon _ _ _ (fun y => cover0_C_7 ..)]
  unfold kernelRun0_C
  dsimp only
  sl_unfold_words
  refine (last ..).trans ?_
  refine (diag1 ..).trans ?_
  refine congr (congrArg (HAdd.hAdd (α := EReal)) ?_) ?_
  · exact kept_1 ..
  · unfold diag
    rw [half_1 _ (bq ch m ρ c t), half_1 _ (bk ch m ρ c t), half_1 _ (bv ch m ρ c t), half_1 _ (bd ch m ρ c t), rows_1 _ (bl ch m ρ c t),
      rows_1 _ (bc ch m ρ c t), keys_1 _ (bf ch m ρ c t)]
theorem left_D0 (q0 : ¬P0_0 ch t) (q1 : P0_1 ch t) (r : Fin 512) :
    step0 ch m ρ c t prev (ix3 0 r 0) = prev (ix3 0 r 0) + free ch m ρ c t 0 r := by
  rw [step0_D ch m ρ c t prev q0 q1]
  unfold out0_D_7
  rw [View.read_writes_eq_canon _ _ _ (fun y => cover0_D_7 ..)]
  unfold kernelRun0_D
  dsimp only
  sl_unfold_words
  refine (first ..).trans ?_
  refine (free0 ..).trans ?_
  refine congr (congrArg (HAdd.hAdd (α := EReal)) ?_) ?_
  · exact kept_0 ..
  · unfold free
    rw [half_0 _ (bq ch m ρ c t), half_0 _ (bk ch m ρ c t), half_0 _ (bv ch m ρ c t), half_0 _ (bd ch m ρ c t), rows_0 _ (bl ch m ρ c t),
      rows_0 _ (bc ch m ρ c t), keys_0 _ (bf ch m ρ c t)]
theorem left_D1 (q0 : ¬P0_0 ch t) (q1 : P0_1 ch t) (r : Fin 512) :
    step0 ch m ρ c t prev (ix3 1 r 0) = prev (ix3 1 r 0) + free ch m ρ c t 1 r := by
  rw [step0_D ch m ρ c t prev q0 q1]
  unfold out0_D_7
  rw [View.read_writes_eq_canon _ _ _ (fun y => cover0_D_7 ..)]
  unfold kernelRun0_D
  dsimp only
  sl_unfold_words
  refine (last ..).trans ?_
  refine (free1 ..).trans ?_
  refine congr (congrArg (HAdd.hAdd (α := EReal)) ?_) ?_
  · exact kept_1 ..
  · unfold free
    rw [half_1 _ (bq ch m ρ c t), half_1 _ (bk ch m ρ c t), half_1 _ (bv ch m ρ c t), half_1 _ (bd ch m ρ c t), rows_1 _ (bl ch m ρ c t),
      rows_1 _ (bc ch m ρ c t), keys_1 _ (bf ch m ρ c t)]

end Cert.Kernel22Ideal.RowBody
end
-- ==== Proof.RowFacts.lean ====
/-
  The points of the row sums' kernel: the pair of tiles each takes, and how the pairs of a query tile follow one another.
-/
module

public import proofs.«01_k».proof.Proof.Gen.Kernel22Ideal.Flash
public import Idealize.ShloMosaic.Lib.Pipeline.ValueKit

@[expose] public section

set_option maxRecDepth 65536
set_option synthInstance.maxSize 65536

noncomputable section

namespace Cert.Kernel22Ideal.RowFacts

open Cert.Kernel22Ideal Cert.Kernel22Ideal.Gen
open Idealize.ShloMosaic Idealize.ShloMosaic.TcCoe Idealize.SL.Sem

/-- The query tile and the key tile of a point. -/
def qi (n : ℕ) : ℕ := (pinT_0 0 (ix1 (⟨n % 136, Nat.mod_lt _ (by norm_num)⟩ : Fin 136))).toNat
def ki (n : ℕ) : ℕ := (pinT_1 0 (ix1 (⟨n % 136, Nat.mod_lt _ (by norm_num)⟩ : Fin 136))).toNat

/-- The blocks' places. -/
theorem idx : ∀ t : Fin (cfgA 0).N, ((cfgA 0).win (0 : Fin 8)).index t = ![qi t.val, t.val / 136]
    ∧ ((cfgA 0).win (1 : Fin 8)).index t = ![ki t.val, 6 + t.val / 136] ∧ ((cfgA 0).win (2 : Fin 8)).index t = ![ki t.val, 12 + t.val / 136]
    ∧ ((cfgA 0).win (3 : Fin 8)).index t = ![qi t.val, t.val / 136] ∧ ((cfgA 0).win (4 : Fin 8)).index t = ![t.val / 136, qi t.val, 0]
    ∧ ((cfgA 0).win (5 : Fin 8)).index t = ![t.val / 136, qi t.val, 0] ∧ ((cfgA 0).win (6 : Fin 8)).index t = ![t.val / 136, 0, ki t.val]
    ∧ ((cfgA 0).win (7 : Fin 8)).index t = ![t.val / 136, qi t.val, 0] := by decide +kernel

/-- A point starts from zero at the first key tile and masks on the diagonal, which is a query tile's last pair. -/
theorem pair : ∀ t : Fin (cfgA 0).N, (P0_0 0 t ↔ ki t.val = 0) ∧ (P0_1 0 t ↔ ki t.val ≠ qi t.val) ∧ ki t.val ≤ qi t.val ∧ qi t.val < 16
    ∧ (((cfgA 0).win (7 : Fin 8)).flush t = true ↔ ki t.val = qi t.val) := by decide +kernel

/-- A later key tile follows the one before it. -/
theorem next : ∀ n : Fin 816, ki n.val ≠ 0 → n.val ≠ 0 ∧ qi (n.val - 1) = qi n.val ∧ ki (n.val - 1) + 1 = ki n.val
    ∧ (n.val - 1) / 136 = n.val / 136 := by decide +kernel

end Cert.Kernel22Ideal.RowFacts
end
-- ==== Proof.RowSpec.lean ====
/-
  The sums over the keys of the gated attention's backward pass, written out over the argument arrays: the logit of a query
  and a key is their scaled product plus the query's gate minus the key's, the weight its exponential with the query's
  log-sum taken off, and the sum is of the weights times the products of the output's cotangent with the values. A key after
  the query has weight zero, so the keys may be added up tile by tile as far as the query's own tile.
-/
module

public import proofs.«01_k».proof.Proof.Softmax

@[expose] public section

noncomputable section

namespace Cert.RowSpec

open Idealize.ShloMosaic Cert.Softmax
open scoped BigOperators

/-- The columns of head `h` in an array whose heads begin at column `o`. -/
def cols (o n : ℕ) (ho : o + 1536 ≤ n) (X : (⟨2, ![8192, n]⟩ : Shape).Idx → EReal) (h : Fin 12) (s : Fin 8192) : Fin 128 → EReal :=
  fun x => X (ix2 s ⟨o + (h.val * 128 + x.val), by omega⟩)

/-- Head `h` of an array of rows and of one of columns. -/
def rows (X : (⟨3, ![12, 8192, 1]⟩ : Shape).Idx → EReal) (h : Fin 12) (s : Fin 8192) : EReal := X (ix3 h s 0)
def keys (X : (⟨3, ![12, 1, 8192]⟩ : Shape).Idx → EReal) (h : Fin 12) (s : Fin 8192) : EReal := X (ix3 h 0 s)

variable (q k v d : Fin 8192 → Fin 128 → EReal) (c f l : Fin 8192 → EReal)

/-- One head's logit of the query at `s` and the key at `j`. -/
def logit (s j : Fin 8192) : EReal := (∑ x, q s x * k j x) * scale + c s - f j

/-- A key after the query counts for nothing. -/
def score (s j : Fin 8192) : EReal := if j.val ≤ s.val then logit q k c f s j else ⊥

/-- What the key at `j` adds to the sum of the query at `s`. -/
def term (s j : Fin 8192) : EReal := Ideal.exp (score q k c f s j - l s) * ∑ x, d s x * v j x

/-- The query's sum. -/
def rowdot (s : Fin 8192) : EReal := ∑ j, term q k v d c f l s j

/-- A key after the query adds zero. -/
theorem term_zero {s j : Fin 8192} (h : s.val < j.val) : term q k v d c f l s j = 0 := by
  unfold term score
  rw [if_neg (by omega), EReal.bot_sub]
  simp

/-- What tile `i` of the keys adds. -/
def tile (s : Fin 8192) (i : ℕ) : EReal :=
  if h : i < 16 then ∑ r : Fin 512, term q k v d c f l s ⟨512 * i + r.val, by omega⟩ else 0

/-- The tiles as far as the query's own make up the whole sum. -/
theorem rowdot_eq (s : Fin 8192) (i : ℕ) (hi : i < 16) (hs : s.val < 512 * (i + 1)) :
    ∑ n ∈ Finset.range (i + 1), tile q k v d c f l s n = rowdot q k v d c f l s := by
  have h : ∑ n ∈ Finset.range (i + 1), tile q k v d c f l s n = ∑ n ∈ Finset.range 16, tile q k v d c f l s n := by
    refine Finset.sum_subset (fun n hn => Finset.mem_range.2 (by have := Finset.mem_range.1 hn; omega)) fun n hn hn' => ?_
    have h1 := Finset.mem_range.1 hn
    have h2 : i + 1 ≤ n := by by_contra h; exact hn' (Finset.mem_range.2 (by omega))
    unfold tile
    rw [dif_pos h1]
    exact Finset.sum_eq_zero fun r _ => term_zero q k v d c f l (by show s.val < 512 * n + r.val; omega)
  rw [h, ← Fin.sum_univ_eq_sum_range]
  refine Eq.trans (Finset.sum_congr rfl fun n _ => ?_) (ExtendedReals.sum_tiles 16 512 8192 rfl (term q k v d c f l s) fun n r => by omega)
  unfold tile
  rw [dif_pos n.isLt]

/-- The scale may be put on the query's entries. -/
theorem scaled (a b : Fin 128 → EReal) : ∑ x, a x * scale * b x = (∑ x, a x * b x) * scale := by
  obtain ⟨r, hr, e⟩ := scale_real
  rw [e, ExtendedReals.sum_mul _ _ hr]
  exact Finset.sum_congr rfl fun x _ => by rw [mul_assoc, mul_comm (r : EReal), ← mul_assoc]

end Cert.RowSpec

end
-- ==== Proof.RowArrays.lean ====
/-
  The array the row sums' kernel leaves: the points of a query tile add up its key tiles, the last being the one on the
  diagonal, after which the block is written.
-/
module

public import proofs.«01_k».proof.Proof.RowBody
public import proofs.«01_k».proof.Proof.RowFacts
public import proofs.«01_k».proof.Proof.RowSpec

@[expose] public section

set_option maxRecDepth 16384

noncomputable section

namespace Cert.Kernel22Ideal.RowArrays

open Cert.Kernel22Ideal Cert.Kernel22Ideal.Gen Cert.Kernel22Ideal.RowBody Cert.Kernel22Ideal.RowFacts
open Idealize.ShloMosaic Idealize.ShloMosaic.TcCoe Idealize.SL.Sem
open Idealize.ShloMosaic.Pipeline (Dat)
open Cert.Softmax

variable (m : (ℓ : Loc nD τ sig) → Buf (Elt Ideal) ℓ) (ρ : Dev nD → PrngReg) (c : Dev nD)

/-- The argument arrays. -/
abbrev a2 : FVec Ideal S8192x5120 .f32 := m ((c : Thread nD τ).loc main_arg2)
abbrev a3 : FVec Ideal S8192x5120 .f32 := m ((c : Thread nD τ).loc main_arg3)
abbrev a4 : FVec Ideal S8192x5120 .f32 := m ((c : Thread nD τ).loc main_arg4)
abbrev a5 : FVec Ideal S8192x2048 .f32 := m ((c : Thread nD τ).loc main_arg5)
abbrev a6 : FVec Ideal S12x8192x1 .f32 := m ((c : Thread nD τ).loc main_arg6)
abbrev a7 : FVec Ideal S12x8192x1 .f32 := m ((c : Thread nD τ).loc main_arg7)
abbrev a8 : FVec Ideal S12x1x8192 .f32 := m ((c : Thread nD τ).loc main_arg8)

/-- The heads of the arrays. -/
abbrev Q := RowSpec.cols 0 5120 (by norm_num) (a2 m c)
abbrev K := RowSpec.cols 1536 5120 (by norm_num) (a3 m c)
abbrev V := RowSpec.cols 3072 5120 (by norm_num) (a4 m c)
abbrev D := RowSpec.cols 0 2048 (by norm_num) (a5 m c)
abbrev L := RowSpec.rows (a6 m c)
abbrev C := RowSpec.rows (a7 m c)
abbrev F := RowSpec.keys (a8 m c)

theorem lt816 (t : Fin (cfgA 0).N) : t.val < 816 := t.isLt

/-- The head of one of a point's two halves, a row of its query tile and one of its key tile. -/
abbrev hd (t : Fin (cfgA 0).N) (b : Fin 2) : Fin 12 := ⟨t.val / 136 * 2 + b.val, by have := lt816 t; omega⟩
abbrev qp (t : Fin (cfgA 0).N) (r : Fin 512) : Fin 8192 := ⟨512 * qi t.val + r.val, by have := (pair t).2.2.2.1; omega⟩
abbrev kp (t : Fin (cfgA 0).N) (r : Fin 512) : Fin 8192 :=
  ⟨512 * ki t.val + r.val, by have := (pair t).2.2.2.1; have := (pair t).2.2.1; omega⟩

variable (t : Fin (cfgA 0).N) (b : Fin 2) (r : Fin 512) (x : Fin 128)

theorem at_q : half b (bq 0 m ρ c t) (ix2 r x) = Q m c (hd t b) (qp t r) x := by
  show iblk 0 m ρ c 0 t (ix2 r (⟨128 * b.val + x.val, by omega⟩ : Fin 256)) = m ((c : Thread nD τ).loc main_arg2) (ix2 _ _)
  have h := idx t
  blk_ext [iblk, h]
theorem at_k : half b (bk 0 m ρ c t) (ix2 r x) = K m c (hd t b) (kp t r) x := by
  show iblk 0 m ρ c 1 t (ix2 r (⟨128 * b.val + x.val, by omega⟩ : Fin 256)) = m ((c : Thread nD τ).loc main_arg3) (ix2 _ _)
  have h := idx t
  blk_ext [iblk, h]
theorem at_v : half b (bv 0 m ρ c t) (ix2 r x) = V m c (hd t b) (kp t r) x := by
  show iblk 0 m ρ c 2 t (ix2 r (⟨128 * b.val + x.val, by omega⟩ : Fin 256)) = m ((c : Thread nD τ).loc main_arg4) (ix2 _ _)
  have h := idx t
  blk_ext [iblk, h]
theorem at_d : half b (bd 0 m ρ c t) (ix2 r x) = D m c (hd t b) (qp t r) x := by
  show iblk 0 m ρ c 3 t (ix2 r (⟨128 * b.val + x.val, by omega⟩ : Fin 256)) = m ((c : Thread nD τ).loc main_arg5) (ix2 _ _)
  have h := idx t
  blk_ext [iblk, h]
theorem at_l : RowBody.rows b (bl 0 m ρ c t) (ix3 0 r 0) = L m c (hd t b) (qp t r) := by
  show iblk 0 m ρ c 4 t (ix3 b r (0 : Fin 1)) = m ((c : Thread nD τ).loc main_arg6) (ix3 _ _ _)
  have h := idx t
  blk_ext [iblk, h]
theorem at_c : RowBody.rows b (bc 0 m ρ c t) (ix3 0 r 0) = C m c (hd t b) (qp t r) := by
  show iblk 0 m ρ c 5 t (ix3 b r (0 : Fin 1)) = m ((c : Thread nD τ).loc main_arg7) (ix3 _ _ _)
  have h := idx t
  blk_ext [iblk, h]
theorem at_f : RowBody.keys b (bf 0 m ρ c t) (ix3 0 0 r) = F m c (hd t b) (kp t r) := by
  show iblk 0 m ρ c 6 t (ix3 b (0 : Fin 1) r) = m ((c : Thread nD τ).loc main_arg8) (ix3 _ _ _)
  have h := idx t
  blk_ext [iblk, h]

/-- The sum of a row over one key tile. -/
abbrev tl (h : Fin 12) (s : Fin 8192) (i : ℕ) : EReal :=
  RowSpec.tile (Q m c h) (K m c h) (V m c h) (D m c h) (C m c h) (F m c h) (L m c h) s i

/-- What a point adds is the sum over its key tile. -/
theorem free_eq (h : ki t.val ≠ qi t.val) : free 0 m ρ c t b r = tl m c (hd t b) (qp t r) (ki t.val) := by
  have h1 := (pair t).2.2.1
  have h2 := (pair t).2.2.2.1
  unfold free RowPoint.part RowPoint.sc tl RowSpec.tile
  rw [dif_pos (by omega)]
  refine Finset.sum_congr rfl fun s _ => ?_
  simp only [at_q, at_k, at_v, at_d, at_l, at_c, at_f]
  unfold RowSpec.term RowSpec.score
  rw [if_pos (by show 512 * ki t.val + s.val ≤ 512 * qi t.val + r.val; omega)]
  unfold RowSpec.logit
  rw [RowSpec.scaled]

theorem diag_eq (h : ki t.val = qi t.val) : diag 0 m ρ c t b r = tl m c (hd t b) (qp t r) (ki t.val) := by
  have h2 := (pair t).2.2.2.1
  unfold diag RowPoint.part RowPoint.msc RowPoint.sc tl RowSpec.tile
  rw [dif_pos (by omega)]
  refine Finset.sum_congr rfl fun s _ => ?_
  simp only [at_q, at_k, at_v, at_d, at_l, at_c, at_f]
  unfold RowSpec.term RowSpec.score RowSpec.logit
  rw [RowSpec.scaled]
  by_cases hs : s.val ≤ r.val
  · rw [if_pos hs, if_pos (by show 512 * ki t.val + s.val ≤ 512 * qi t.val + r.val; omega)]
  · rw [if_neg hs, if_neg (by show ¬512 * ki t.val + s.val ≤ 512 * qi t.val + r.val; omega)]

/-- So a point at a query tile's first key tile leaves that tile's sum, -/
theorem step_first (prev : S2x512x1.Idx → Elt Ideal .f32) (h0 : ki t.val = 0) :
    step0 0 m ρ c t prev (ix3 b r 0) = tl m c (hd t b) (qp t r) (ki t.val) := by
  have q0 : P0_0 0 t := (pair t).1.2 h0
  by_cases h : ki t.val = qi t.val
  · have q1 : ¬P0_1 0 t := fun hp => (pair t).2.1.1 hp h
    rw [← diag_eq m ρ c t b r h, ← zero_add (diag 0 m ρ c t b r)]
    fin_cases b
    · exact left_A0 0 m ρ c t prev q0 q1 r
    · exact left_A1 0 m ρ c t prev q0 q1 r
  · have q1 : P0_1 0 t := (pair t).2.1.2 h
    rw [← free_eq m ρ c t b r h, ← zero_add (free 0 m ρ c t b r)]
    fin_cases b
    · exact left_B0 0 m ρ c t prev q0 q1 r
    · exact left_B1 0 m ρ c t prev q0 q1 r

/-- and a later one adds its tile's sum. -/
theorem step_next (prev : S2x512x1.Idx → Elt Ideal .f32) (h0 : ki t.val ≠ 0) :
    step0 0 m ρ c t prev (ix3 b r 0) = prev (ix3 b r 0) + tl m c (hd t b) (qp t r) (ki t.val) := by
  have q0 : ¬P0_0 0 t := fun hp => h0 ((pair t).1.1 hp)
  by_cases h : ki t.val = qi t.val
  · have q1 : ¬P0_1 0 t := fun hp => (pair t).2.1.1 hp h
    rw [← diag_eq m ρ c t b r h]
    fin_cases b
    · exact left_C0 0 m ρ c t prev q0 q1 r
    · exact left_C1 0 m ρ c t prev q0 q1 r
  · have q1 : P0_1 0 t := (pair t).2.1.2 h
    rw [← free_eq m ρ c t b r h]
    fin_cases b
    · exact left_D0 0 m ρ c t prev q0 q1 r
    · exact left_D1 0 m ρ c t prev q0 q1 r

/-- After a point its block holds the sums over the key tiles so far. -/
theorem so_far : ∀ (n : ℕ) (hn : n < (cfgA 0).N), traj0 0 m ρ c n hn (ix3 b r 0)
    = ∑ i ∈ Finset.range (ki n + 1), tl m c (hd ⟨n, hn⟩ b) (qp ⟨n, hn⟩ r) i := by
  intro n
  induction n with
  | zero =>
    intro hn
    have h0 : ki 0 = 0 := by by_contra h; exact (next ⟨0, by norm_num⟩ h).1 rfl
    refine (step_first m ρ c ⟨0, hn⟩ b r default h0).trans ?_
    show tl m c _ _ (ki 0) = _
    rw [h0]
    simp
  | succ n ih =>
    intro hn
    have hn' : n < (cfgA 0).N := Nat.lt_of_succ_lt hn
    by_cases h : ki (n + 1) = 0
    · refine (step_first m ρ c ⟨n + 1, hn⟩ b r (traj0 0 m ρ c n hn') h).trans ?_
      show tl m c _ _ (ki (n + 1)) = _
      rw [h]
      simp
    · obtain ⟨-, hq, hk, hh⟩ := next ⟨n + 1, hn⟩ h
      simp only [Nat.add_sub_cancel] at hq hk hh
      refine (step_next m ρ c ⟨n + 1, hn⟩ b r (traj0 0 m ρ c n hn') h).trans ?_
      rw [ih hn', Finset.sum_range_succ _ (ki (n + 1)), hk]
      congr 1
      have e1 : hd ⟨n, hn'⟩ b = hd ⟨n + 1, hn⟩ b := Fin.ext (by show n / 136 * 2 + b.val = (n + 1) / 136 * 2 + b.val; rw [hh])
      have e2 : qp ⟨n, hn'⟩ r = qp ⟨n + 1, hn⟩ r := Fin.ext (by show 512 * qi n + r.val = 512 * qi (n + 1) + r.val; rw [hq])
      rw [e1, e2]

/-- The result. -/
def result (c : Dev nD) : S12x8192x1.Idx → EReal := fun i =>
  RowSpec.rowdot (Q m c (i 0)) (K m c (i 0)) (V m c (i 0)) (D m c (i 0)) (C m c (i 0)) (F m c (i 0)) (L m c (i 0)) (i 1)

theorem place : (((cfgA 0).win (7 : Fin 8)).blk t).view.emb (ix3 b r (0 : Fin 1)) = (ix3 (hd t b) (qp t r) (0 : Fin 1) : S12x8192x1.Idx) := by
  have h := idx t
  blk_ext [h]

theorem final : (dats 0 m ρ 0 c).arrAt (7 : Fin 8) (cfgA 0).N = result m c := by
  refine (dats 0 m ρ 0 c).arrAt_eq_of_covers (7 : Fin 8) _ (by decide +kernel) fun t hf y => ?_
  have hk : ki t.val = qi t.val := (pair t).2.2.2.2.1 hf
  have hq := (pair t).2.2.2.1
  rw [after0_7]
  obtain ⟨b, r, rfl⟩ : ∃ (b : Fin 2) (r : Fin 512), y = ix3 b r (0 : Fin 1) := ⟨y 0, y 1, (eq_ix3 y).trans (by congr 1; exact Subsingleton.elim (α := Fin 1) _ _)⟩
  rw [place t b r]
  refine (so_far m ρ c b r t.val t.isLt).trans ?_
  rw [hk]
  exact RowSpec.rowdot_eq _ _ _ _ _ _ _ (qp t r) (qi t.val) hq (by show 512 * qi t.val + r.val < _; omega)

end Cert.Kernel22Ideal.RowArrays
end
-- ==== Proof.RowRef.lean ====
/-
  The reference's result over the extended reals, cut at its logits and read at an index.
-/
module

public import proofs.«01_k».proof.Proof.RowSpec
public import proofs.«01_k».proof.Proof.Gen.Reference22Ideal.Run
public import Idealize.ShloMosaic.Lib.StableHlo.RunHlo
public import Idealize.ShloMosaic.Lib.WordCmp

@[expose] public section

set_option maxRecDepth 16384

noncomputable section

namespace Cert.Reference22Ideal.RowRef

open Cert.Reference22Ideal Cert.Reference22Ideal.Gen
open Idealize.ShloMosaic Idealize.SL.Sem Idealize.ShloMosaic.TcCoe
open Cert.Softmax

variable (a2 a3 a4 : FVec Ideal S8192x5120 .f32) (a5 : FVec Ideal S8192x2048 .f32) (a6 a7 : FVec Ideal S12x8192x1 .f32)
  (a8 : FVec Ideal S12x1x8192 .f32)

/-- The queries, the keys, the values and the cotangent, by heads. -/
def Q : FVec Ideal S12x8192x128 .f32 := transpose S12x8192x128 [1, 0, 2] (shapeCast _ (extractStridedSlice S8192x1536 ![0, 0] a2 slices_S8192x5120_S8192x1536_0_0) shapeCasts_S8192x1536_S8192x12x128) transposes_S8192x12x128_S12x8192x128_1_0_2
def K : FVec Ideal S12x8192x128 .f32 := transpose S12x8192x128 [1, 0, 2] (shapeCast _ (extractStridedSlice S8192x1536 ![0, 1536] a3 slices_S8192x5120_S8192x1536_0_1536) shapeCasts_S8192x1536_S8192x12x128) transposes_S8192x12x128_S12x8192x128_1_0_2
def V : FVec Ideal S12x8192x128 .f32 := transpose S12x8192x128 [1, 0, 2] (shapeCast _ (extractStridedSlice S8192x1536 ![0, 3072] a4 slices_S8192x5120_S8192x1536_0_3072) shapeCasts_S8192x1536_S8192x12x128) transposes_S8192x12x128_S12x8192x128_1_0_2
def D : FVec Ideal S12x8192x128 .f32 := transpose S12x8192x128 [1, 0, 2] (shapeCast _ (extractStridedSlice S8192x1536 ![0, 0] a5 slices_S8192x2048_S8192x1536_0_0) shapeCasts_S8192x1536_S8192x12x128) transposes_S8192x12x128_S12x8192x128_1_0_2

variable (q k v d : FVec Ideal S12x8192x128 .f32) (z l : FVec Ideal S12x8192x8192 .f32)

/-- The logits before the mask, -/
def Z : FVec Ideal S12x8192x8192 .f32 :=
  subf (addf (mulf (Host.dotGeneral dot_S12x8192x128_S12x8192x128_S12x8192x8192_2_2_1_1_0_0 none q k) (broadcastInDim S12x8192x8192 ![] bcast_S_S12x8192x8192 (constant S_ .f32 0x3DB504F3#32))) (broadcastInDim S12x8192x8192 ![0, 1, 2] bcast_S12x8192x1_S12x8192x8192_0_1_2 (broadcastInDim S12x8192x1 ![0, 1] bcast_S12x8192_S12x8192x1_0_1 (shapeCast _ a7 shapeCasts_S12x8192x1_S12x8192)))) (broadcastInDim S12x8192x8192 ![0, 1, 2] bcast_S12x1x8192_S12x8192x8192_0_1_2 (broadcastInDim S12x1x8192 ![0, 2] bcast_S12x8192_S12x1x8192_0_2 (shapeCast _ a8 shapeCasts_S12x1x8192_S12x8192)))

/-- the mask put on, -/
def M : FVec Ideal S12x8192x8192 .f32 :=
  select (broadcastInDim S12x8192x8192 ![1, 2] bcast_S8192x8192_S12x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) z (broadcastInDim S12x8192x8192 ![] bcast_S_S12x8192x8192 (id (constant S_ .f32 0xFF800000#32)))

/-- and the sums over the keys. -/
def R : FVec Ideal S12x8192x1 .f32 :=
  broadcastInDim S12x8192x1 ![0, 1] bcast_S12x8192_S12x8192x1_0_1 (Host.reduceAdd (mulf (Host.exp (subf l (broadcastInDim S12x8192x8192 ![0, 1, 2] bcast_S12x8192x1_S12x8192x8192_0_1_2 a6))) (Host.dotGeneral dot_S12x8192x128_S12x8192x128_S12x8192x8192_2_2_1_1_0_0 none d v)) (constant S_ .f32 0x00000000#32) reducesTo_S12x8192x8192_S12x8192_d2 h_S_)

theorem Q_at (h : Fin 12) (s : Fin 8192) (x : Fin 128) : Q a2 (ix3 h s x) = RowSpec.cols 0 5120 (by norm_num) a2 h s x := by
  pointwise [Q]
  exact congrArg a2 (congrArg (ix2 s) (Fin.ext (Nat.zero_add _).symm))
theorem K_at (h : Fin 12) (s : Fin 8192) (x : Fin 128) : K a3 (ix3 h s x) = RowSpec.cols 1536 5120 (by norm_num) a3 h s x := by
  pointwise [K]
  rfl
theorem V_at (h : Fin 12) (s : Fin 8192) (x : Fin 128) : V a4 (ix3 h s x) = RowSpec.cols 3072 5120 (by norm_num) a4 h s x := by
  pointwise [V]
  rfl
theorem D_at (h : Fin 12) (s : Fin 8192) (x : Fin 128) : D a5 (ix3 h s x) = RowSpec.cols 0 2048 (by norm_num) a5 h s x := by
  pointwise [D]
  exact congrArg a5 (congrArg (ix2 s) (Fin.ext (Nat.zero_add _).symm))
theorem Z_at (h : Fin 12) (s j : Fin 8192) : Z a7 a8 q k (ix3 h s j)
    = (∑ x, q (ix3 h s x) * k (ix3 h j x)) * scale + a7 (ix3 h s 0) - a8 (ix3 h 0 j) := by
  pointwise [Z]
theorem M_at (h : Fin 12) (s j : Fin 8192) : M z (ix3 h s j) = if j.val ≤ s.val then z (ix3 h s j) else ⊥ := by
  pointwise [M]
  rw [WordCmp.cmpi_sge_ofNat (by omega) (by omega), id, show constant (F := Ideal) S_ .f32 0xFF800000#32 ix0 = (⊥ : EReal) from neg_inf]
  by_cases h : j.val ≤ s.val <;> simp [h, Scalar.select]
theorem R_at (h : Fin 12) (s : Fin 8192) (u : Fin 1) : R a6 v d l (ix3 h s u)
    = ∑ j, Ideal.exp (l (ix3 h s j) - a6 (ix3 h s 0)) * ∑ x, d (ix3 h s x) * v (ix3 h j x) := by
  pointwise [R]

/-- The result is the spelled-out sum. -/
theorem R_eq (h : Fin 12) (s : Fin 8192) (u : Fin 1) : R a6 (V a4) (D a5) (M (Z a7 a8 (Q a2) (K a3))) (ix3 h s u)
    = RowSpec.rowdot (RowSpec.cols 0 5120 (by norm_num) a2 h) (RowSpec.cols 1536 5120 (by norm_num) a3 h) (RowSpec.cols 3072 5120 (by norm_num) a4 h)
        (RowSpec.cols 0 2048 (by norm_num) a5 h) (RowSpec.rows a7 h) (RowSpec.keys a8 h) (RowSpec.rows a6 h) s := by
  rw [R_at]
  unfold RowSpec.rowdot RowSpec.term RowSpec.score RowSpec.logit
  simp only [M_at, Z_at, Q_at, K_at, V_at, D_at]
  rfl

end Cert.Reference22Ideal.RowRef

end
-- ==== Proof.RowClaims.lean ====
/-
  The claims of the attention's row sums: the reference's frame, and the value.
-/
module

public import proofs.«01_k».proof.Proof.RowTables
public import proofs.«01_k».proof.Proof.RowArrays
public import proofs.«01_k».proof.Proof.RowRef

@[expose] public section

set_option maxRecDepth 16384

noncomputable section

namespace Cert.RowClaims

open Idealize.ShloMosaic Idealize.SL.Sem Idealize.ShloMosaic.TcCoe

theorem frame_reference : Cert.quiescent_Reference22Ideal (hReference22Ideal := Cert.Reference22Ideal.Gen.facts) := fun m ρ _ =>
  θ_run_mono (Cert.Reference22Ideal.Value.run (F := Ideal) m ρ) fun r h =>
    ⟨fun c => (h c).2, sem_eq_zero_of_no_sems (by decide) r.2⟩

theorem value : Cert.algebraic_Kernel22Ideal_Reference22Ideal (hKernel22Ideal := Cert.Kernel22Ideal.Gen.facts)
    (hReference22Ideal := Cert.Reference22Ideal.Gen.facts) (hPre_pairs := Cert.RowTables.facts) := by
  intro m g m' g' hpre hagree
  have hp := Cert.RowTables.pinned_ideal m hpre
  refine ⟨fun c => Cert.Kernel22Ideal.RowArrays.result m c, θ_run_mono (Cert.Kernel22Ideal.Gen.run_main 0 m g hp) fun r h c => ⟨?_, ?_⟩,
    θ_run_mono (Cert.Reference22Ideal.Value.run m' g') fun r h c => ⟨(h c).1.trans ?_, (h c).2⟩⟩
  · exact ((h c).1 (7 : Fin 8)).trans (Cert.Kernel22Ideal.RowArrays.final m g c)
  · exact ⟨((h c).2 0).trans (hp.1 c).symm, ((h c).2 1).trans (hp.2 c).symm,
      ((h c).1 (0 : Fin 8)).trans ((Cert.Kernel22Ideal.Gen.dats 0 m g 0 c).arrAt_in (0 : Fin 8) rfl _),
      ((h c).1 (1 : Fin 8)).trans ((Cert.Kernel22Ideal.Gen.dats 0 m g 0 c).arrAt_in (1 : Fin 8) rfl _),
      ((h c).1 (2 : Fin 8)).trans ((Cert.Kernel22Ideal.Gen.dats 0 m g 0 c).arrAt_in (2 : Fin 8) rfl _),
      ((h c).1 (3 : Fin 8)).trans ((Cert.Kernel22Ideal.Gen.dats 0 m g 0 c).arrAt_in (3 : Fin 8) rfl _),
      ((h c).1 (4 : Fin 8)).trans ((Cert.Kernel22Ideal.Gen.dats 0 m g 0 c).arrAt_in (4 : Fin 8) rfl _),
      ((h c).1 (5 : Fin 8)).trans ((Cert.Kernel22Ideal.Gen.dats 0 m g 0 c).arrAt_in (5 : Fin 8) rfl _),
      ((h c).1 (6 : Fin 8)).trans ((Cert.Kernel22Ideal.Gen.dats 0 m g 0 c).arrAt_in (6 : Fin 8) rfl _)⟩
  · obtain ⟨e0, e1, e2, e3, e4, e5, e6, e7, e8⟩ := hagree c
    rw [e2, e3, e4, e5, e6, e7, e8]
    funext i
    obtain ⟨h, s, u, rfl⟩ : ∃ h s u, i = ix3 h s u := ⟨i 0, i 1, i 2, by funext a; fin_cases a <;> rfl⟩
    exact Cert.Reference22Ideal.RowRef.R_eq _ _ _ _ _ _ _ h s u

end Cert.RowClaims

end
-- ==== Proof.MemSpec.lean ====
/-
  The gradient of the memory read, written out over the argument arrays: `a0` the projection whose last 512 columns are
  the queries, `a1` the memory's keys (first 512 columns) and values (last 512), `a2` the cotangent, whose last 512 columns
  are the read's. Four heads of 128 columns each.
-/
module

public import proofs.«01_k».proof.Proof.Softmax

@[expose] public section

noncomputable section

namespace Cert.MemSpec

open Idealize.ShloMosaic Cert.Softmax
open scoped BigOperators

variable (a0 a2 : FVec Ideal (⟨2, ![8192, 2048]⟩ : Shape) .f32) (a1 : FVec Ideal (⟨2, ![256, 1024]⟩ : Shape) .f32)

/-- Head `h`'s query (or cotangent) at position `s`. -/
def head (a : FVec Ideal (⟨2, ![8192, 2048]⟩ : Shape) .f32) (h : Fin 4) (s : Fin 8192) : Fin 128 → EReal :=
  fun x => a (ix2 s ⟨1536 + (h.val * 128 + x.val), by omega⟩)

/-- Head `h`'s keys. -/
def keys (h : Fin 4) : Fin 256 → Fin 128 → EReal := fun j x => a1 (ix2 j ⟨h.val * 128 + x.val, by omega⟩)

/-- Head `h`'s values. -/
def vals (h : Fin 4) : Fin 256 → Fin 128 → EReal := fun j x => a1 (ix2 j ⟨512 + (h.val * 128 + x.val), by omega⟩)

/-- The gradient of head `h`'s queries. -/
def dq (h : Fin 4) (s : Fin 8192) (x : Fin 128) : EReal :=
  (∑ j, slope (head a0 h s) (keys a1 h) (vals a1 h) (head a2 h s) j * keys a1 h j x) * scale

/-- The gradient of head `h`'s keys. -/
def dk (h : Fin 4) (j : Fin 256) (x : Fin 128) : EReal :=
  (∑ s, slope (head a0 h s) (keys a1 h) (vals a1 h) (head a2 h s) j * head a0 h s x) * scale

/-- The gradient of head `h`'s values. -/
def dv (h : Fin 4) (j : Fin 256) (x : Fin 128) : EReal := ∑ s, pr (head a0 h s) (keys a1 h) j * head a2 h s x

/-- The head and the column within the head of a column of a 512-column result. -/
abbrev colHead (y : Fin 512) : Fin 4 := ⟨y.val / 128, by omega⟩
abbrev colIn (y : Fin 512) : Fin 128 := ⟨y.val % 128, by omega⟩

end Cert.MemSpec

end
-- ==== Proof.Finite.lean ====
/-
  The precondition read: no memory query and no memory key is infinite, so each is a real.
-/
module

public import proofs.«01_k».proof.Defs
public import proofs.«01_k».proof.Proof.MemSpec
public import Idealize.ShloMosaic.Lib.Pointwise

@[expose] public section

noncomputable section

namespace Cert.Finite

open Idealize.ShloMosaic Idealize.SL.Sem Cert.Pre_finite

instance facts : Cert.Pre_finite.Facts := ⟨by decide, by decide, by decide, by decide⟩

/-- An extended real whose absolute value is below the word of infinity is a real. -/
theorem real_of_lt (x : EReal) (h : BitVec.ofBool (decide (FloatOps.absf (F := Ideal) (φ := .f32) x < Ideal.ofBits FTy.f32 2139095040#32)) = 1#1) :
    ∃ r : ℝ, x = (r : EReal) := by
  have ht : Ideal.ofBits FTy.f32 2139095040#32 = (⊤ : EReal) := by
    unfold Ideal.ofBits Ideal.ieee
    simp
  have hl : max x (-x) < ⊤ := by
    rw [ht] at h
    by_contra hc
    have : decide (FloatOps.absf (F := Ideal) (φ := .f32) x < ⊤) = false := decide_eq_false hc
    rw [this] at h
    exact absurd h (by decide)
  obtain ⟨h1, h2⟩ := max_lt_iff.mp hl
  refine ⟨x.toReal, (EReal.coe_toReal h1.ne ?_).symm⟩
  rintro rfl
  exact absurd h2 (by simp)

theorem reals (a0 a2 : FVec Ideal S8192x2048 .f32) (a1 : FVec Ideal S256x1024 .f32)
    (h : (fn (F := Ideal) a0 a1 a2).1 = (fun _ => 1#1) ∧ (fn (F := Ideal) a0 a1 a2).2 = (fun _ => 1#1)) :
    (∀ h s x, ∃ r : ℝ, MemSpec.head a0 h s x = (r : EReal)) ∧ (∀ h j x, ∃ r : ℝ, MemSpec.keys a1 h j x = (r : EReal)) := by
  simp only [fn] at h
  refine ⟨fun hd s x => ?_, fun hd j x => ?_⟩
  · have := congrFun h.1 (ix2 s ⟨hd.val * 128 + x.val, by omega⟩)
    pointwise at this
    exact real_of_lt _ this
  · have := congrFun h.2 (ix2 j ⟨hd.val * 128 + x.val, by omega⟩)
    pointwise at this
    exact real_of_lt _ this

end Cert.Finite

end
-- ==== Proof.MemBody.lean ====
/-
  What one grid point of the memory-attention gradient leaves in its three output blocks, as the body's own named
  values of the input blocks: the query gradient's block is stored once; the key and value gradients' blocks are
  reset to zero at a head's first row tile and added to at every row tile.
-/
module

public import proofs.«01_k».proof.Proof.Gen.KernelIdeal.Value
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.MemBody

open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords)
  (a2 : Memref sig .tc .vmem S512x128 .f32) (h2 : a2.IsWhole) (a3 : Memref sig .tc .vmem S256x128 .f32) (h3 : a3.IsWhole)
  (a4 : Memref sig .tc .vmem S256x128 .f32) (h4 : a4.IsWhole) (a5 : Memref sig .tc .vmem S512x128 .f32) (h5 : a5.IsWhole)
  (a6 : Memref sig .tc .vmem S512x128 .f32) (h6 : a6.IsWhole) (a7 : Memref sig .tc .vmem S256x128 .f32) (h7 : a7.IsWhole)
  (a8 : Memref sig .tc .vmem S256x128 .f32) (h8 : a8.IsWhole)
  (q : Vec F S512x128 .f32) (k v : Vec F S256x128 .f32) (d : Vec F S512x128 .f32) (dk dv : Vec F S256x128 .f32)

/-- The query gradient's block at a head's first row tile. -/
theorem dq_A (hc : cond0_0 i) :
    out0_A_4 c i a2 h2 a3 h3 a4 h4 a5 h5 a6 h6 a7 h7 a8 h8 hc q k v d = k0_pay7 q k v d := by
  unfold out0_A_4
  rw [View.read_writes_eq_canon _ _ _ (cover0_A_4 c i a2 h2 a3 h3 a4 h4 a5 h5 a6 h6 a7 h7 a8 h8 hc q k v d)]
  unfold kernelRun0_A
  dsimp only
  sl_unfold_words
  rw [View.canon_unit_zero hz]
  simp only [View.readAt_eq_ld, h2.read_unread, h3.read_unread, h4.read_unread, h5.read_unread,
    View.ld_unit_zero (S := S512x128) hz, View.ld_unit_zero (S := S256x128) hz]

/-- The query gradient's block at the later row tiles. -/
theorem dq_B (hc : ¬cond0_0 i) :
    out0_B_4 c i a2 h2 a3 h3 a4 h4 a5 h5 a6 h6 a7 h7 a8 h8 hc q k v d dk dv = k0_pay7 q k v d := by
  unfold out0_B_4
  rw [View.read_writes_eq_canon _ _ _ (cover0_B_4 c i a2 h2 a3 h3 a4 h4 a5 h5 a6 h6 a7 h7 a8 h8 hc q k v d dk dv)]
  unfold kernelRun0_B
  dsimp only
  sl_unfold_words
  rw [View.canon_unit_zero hz]
  simp only [View.readAt_eq_ld, h2.read_unread, h3.read_unread, h4.read_unread, h5.read_unread,
    View.ld_unit_zero (S := S512x128) hz, View.ld_unit_zero (S := S256x128) hz]

/-- The key gradient's block at a head's first row tile: the tile's share added to zero. -/
theorem dk_A (hc : cond0_0 i) :
    out0_A_5 c i a2 h2 a3 h3 a4 h4 a5 h5 a6 h6 a7 h7 a8 h8 hc q k v d = k0_pay1 q (k0_pay6 q k v d) k0_pay3 := by
  unfold out0_A_5
  rw [View.read_writes_eq_canon _ _ _ (cover0_A_5 c i a2 h2 a3 h3 a4 h4 a5 h5 a6 h6 a7 h7 a8 h8 hc q k v d)]
  unfold kernelRun0_A
  dsimp only
  sl_unfold_words
  rw [View.canon_cons_unit_zero (S := S256x128) hz]
  simp only [View.readCov_unit_zero (S := S256x128) _ hz, View.readAt_eq_ld, h2.read_unread, h3.read_unread, h4.read_unread, h5.read_unread,
    View.ld_unit_zero (S := S512x128) hz, View.ld_unit_zero (S := S256x128) hz]

/-- The key gradient's block at the later row tiles: the tile's share added to what the tile before left. -/
theorem dk_B (hc : ¬cond0_0 i) :
    out0_B_5 c i a2 h2 a3 h3 a4 h4 a5 h5 a6 h6 a7 h7 a8 h8 hc q k v d dk dv = k0_pay1 q (k0_pay6 q k v d) dk := by
  unfold out0_B_5
  rw [View.read_writes_eq_canon _ _ _ (cover0_B_5 c i a2 h2 a3 h3 a4 h4 a5 h5 a6 h6 a7 h7 a8 h8 hc q k v d dk dv)]
  unfold kernelRun0_B
  dsimp only
  sl_unfold_words
  rw [View.canon_unit_zero (S := S256x128) hz]
  simp only [View.readAt_eq_ld, h2.read_unread, h3.read_unread, h4.read_unread, h5.read_unread, h7.read_unread,
    View.ld_unit_zero (S := S512x128) hz, View.ld_unit_zero (S := S256x128) hz]

/-- The value gradient's block at a head's first row tile. -/
theorem dv_A (hc : cond0_0 i) :
    out0_A_6 c i a2 h2 a3 h3 a4 h4 a5 h5 a6 h6 a7 h7 a8 h8 hc q k v d = k0_pay2 d (k0_pay5 q k) k0_pay4 := by
  unfold out0_A_6
  rw [View.read_writes_eq_canon _ _ _ (cover0_A_6 c i a2 h2 a3 h3 a4 h4 a5 h5 a6 h6 a7 h7 a8 h8 hc q k v d)]
  unfold kernelRun0_A
  dsimp only
  sl_unfold_words
  rw [View.canon_cons_unit_zero (S := S256x128) hz]
  simp only [View.readCov_unit_zero (S := S256x128) _ hz, View.readAt_eq_ld, h2.read_unread, h3.read_unread, h4.read_unread, h5.read_unread,
    View.ld_unit_zero (S := S512x128) hz, View.ld_unit_zero (S := S256x128) hz]

/-- The value gradient's block at the later row tiles. -/
theorem dv_B (hc : ¬cond0_0 i) :
    out0_B_6 c i a2 h2 a3 h3 a4 h4 a5 h5 a6 h6 a7 h7 a8 h8 hc q k v d dk dv = k0_pay2 d (k0_pay5 q k) dv := by
  unfold out0_B_6
  rw [View.read_writes_eq_canon _ _ _ (cover0_B_6 c i a2 h2 a3 h3 a4 h4 a5 h5 a6 h6 a7 h7 a8 h8 hc q k v d dk dv)]
  unfold kernelRun0_B
  dsimp only
  sl_unfold_words
  rw [View.canon_unit_zero (S := S256x128) hz]
  simp only [View.readAt_eq_ld, h2.read_unread, h3.read_unread, h4.read_unread, h5.read_unread, h8.read_unread,
    View.ld_unit_zero (S := S512x128) hz, View.ld_unit_zero (S := S256x128) hz]

end

end Cert.KernelIdeal.MemBody

end
-- ==== Proof.MemPoint.lean ====
/-
  The values the gradient of the memory read computes from one point's blocks, read at an index: the row's weights, the
  cotangent of the logits, and the three products.
-/
module

public import proofs.«01_k».proof.Proof.MemBody
public import proofs.«01_k».proof.Proof.Softmax

@[expose] public section

set_option maxRecDepth 16384

noncomputable section

namespace Cert.KernelIdeal.MemPoint

open Cert.KernelIdeal Cert.KernelIdeal.Gen Cert.Softmax
open Idealize.ShloMosaic

variable (q d : Vec Ideal S512x128 .f32) (k v : Vec Ideal S256x128 .f32)

/-- Row `r` of a block of queries or cotangents. -/
abbrev row (b : Vec Ideal S512x128 .f32) (r : Fin 512) : Fin 128 → EReal := fun x => b (ix2 r x)

/-- The rows of a block of keys or values. -/
abbrev places (b : Vec Ideal S256x128 .f32) : Fin 256 → Fin 128 → EReal := fun j x => b (ix2 j x)

/-- The weights. -/
theorem weights (r : Fin 512) (j : Fin 256) : k0_pay5 q k (ix2 r j) = pr (row q r) (places k) j := by
  pointwise [k0_pay5]
  rfl

/-- The cotangent of the logits. -/
theorem slopes (r : Fin 512) (j : Fin 256) : k0_pay6 q k v d (ix2 r j) = slope (row q r) (places k) (places v) (row d r) j := by
  pointwise [k0_pay6]
  simp only [weights]
  rfl

/-- The gradient of the queries. -/
theorem dq (r : Fin 512) (x : Fin 128) : k0_pay7 q k v d (ix2 r x)
    = (∑ j, slope (row q r) (places k) (places v) (row d r) j * k (ix2 j x)) * scale := by
  pointwise [k0_pay7]
  simp only [slopes]

/-- The gradient of the keys, added to what is there. -/
theorem dk (prev : Vec Ideal S256x128 .f32) (j : Fin 256) (x : Fin 128) : k0_pay1 q (k0_pay6 q k v d) prev (ix2 j x)
    = prev (ix2 j x) + (∑ r, slope (row q r) (places k) (places v) (row d r) j * q (ix2 r x)) * scale := by
  pointwise [k0_pay1]
  simp only [slopes]

/-- The gradient of the values, added to what is there. -/
theorem dv (prev : Vec Ideal S256x128 .f32) (j : Fin 256) (x : Fin 128) : k0_pay2 d (k0_pay5 q k) prev (ix2 j x)
    = prev (ix2 j x) + ∑ r, pr (row q r) (places k) j * d (ix2 r x) := by
  pointwise [k0_pay2]
  simp only [weights]

/-- The blocks the sums start from are zero. -/
theorem zero_dk (j : Fin 256) (x : Fin 128) : k0_pay3 (F := Ideal) (ix2 j x) = 0 := by
  pointwise [k0_pay3]

theorem zero_dv (j : Fin 256) (x : Fin 128) : k0_pay4 (F := Ideal) (ix2 j x) = 0 := by
  pointwise [k0_pay4]

end Cert.KernelIdeal.MemPoint

end
-- ==== Proof.MemArrays.lean ====
/-
  The three arrays the gradient of the memory read leaves: every point writes its own block of the queries' gradient; the
  16 points of a head add up the gradients of its keys and of its values.
-/
module

public import proofs.«01_k».proof.Proof.MemPoint
public import proofs.«01_k».proof.Proof.MemSpec
public import proofs.«01_k».proof.Proof.Gen.KernelIdeal.Value
public import Idealize.ShloMosaic.Lib.Pipeline.ValueKit

@[expose] public section

set_option maxRecDepth 16384

noncomputable section

namespace Cert.KernelIdeal.MemArrays

open Cert.KernelIdeal Cert.KernelIdeal.Gen
open Idealize.ShloMosaic Idealize.ShloMosaic.TcCoe Idealize.SL.Sem
open Idealize.ShloMosaic.Pipeline (Dat)
open Cert.Softmax Cert.KernelIdeal.MemPoint

variable (m : (ℓ : Loc nD τ sig) → Buf (Elt Ideal) ℓ)

/-- The blocks' places at every point. -/
theorem idx : ∀ t : Fin cfg0.N, win0_0.index t = ![t.val % 16, 12 + t.val / 16] ∧ win0_1.index t = ![0, t.val / 16]
    ∧ win0_2.index t = ![0, 4 + t.val / 16] ∧ win0_3.index t = ![t.val % 16, 12 + t.val / 16]
    ∧ win0_4.index t = ![t.val % 16, t.val / 16] ∧ win0_5.index t = ![0, t.val / 16] ∧ win0_6.index t = ![0, t.val / 16] :=
  (by decide +kernel : ∀ t : Fin grid0.N, _)

theorem lt64 (t : Fin cfg0.N) : t.val < 64 := t.isLt

/-- The head of a point and the first position of its tile. -/
abbrev hd (t : Fin cfg0.N) : Fin 4 := ⟨t.val / 16, by have := lt64 t; omega⟩
abbrev pos (t : Fin cfg0.N) (r : Fin 512) : Fin 8192 := ⟨512 * (t.val % 16) + r.val, by have := lt64 t; omega⟩

/-- The argument arrays. -/
abbrev a0 (c : Dev nD) : FVec Ideal S8192x2048 .f32 := m ((c : Thread nD τ).loc main_arg0)
abbrev a1 (c : Dev nD) : FVec Ideal S256x1024 .f32 := m ((c : Thread nD τ).loc main_arg1)
abbrev a2 (c : Dev nD) : FVec Ideal S8192x2048 .f32 := m ((c : Thread nD τ).loc main_arg2)

/-- The blocks at their literal types. -/
abbrev bq (c : Dev nD) (t : Fin cfg0.N) : Vec Ideal S512x128 .f32 := iblk m c 0 t
abbrev bk (c : Dev nD) (t : Fin cfg0.N) : Vec Ideal S256x128 .f32 := iblk m c 1 t
abbrev bv (c : Dev nD) (t : Fin cfg0.N) : Vec Ideal S256x128 .f32 := iblk m c 2 t
abbrev bd (c : Dev nD) (t : Fin cfg0.N) : Vec Ideal S512x128 .f32 := iblk m c 3 t

theorem bq_row (c : Dev nD) (t : Fin cfg0.N) (r : Fin 512) : row (bq m c t) r = MemSpec.head (a0 m c) (hd t) (pos t r) := by
  funext x
  show iblk m c 0 t (ix2 r x) = m ((c : Thread nD τ).loc main_arg0) (ix2 _ _)
  blk_ext [iblk, V, idx t]

theorem bd_row (c : Dev nD) (t : Fin cfg0.N) (r : Fin 512) : row (bd m c t) r = MemSpec.head (a2 m c) (hd t) (pos t r) := by
  funext x
  show iblk m c 3 t (ix2 r x) = m ((c : Thread nD τ).loc main_arg2) (ix2 _ _)
  blk_ext [iblk, V, idx t]

theorem bk_places (c : Dev nD) (t : Fin cfg0.N) : places (bk m c t) = MemSpec.keys (a1 m c) (hd t) := by
  funext j x
  show iblk m c 1 t (ix2 j x) = m ((c : Thread nD τ).loc main_arg1) (ix2 _ _)
  blk_ext [iblk, V, idx t]

theorem bv_places (c : Dev nD) (t : Fin cfg0.N) : places (bv m c t) = MemSpec.vals (a1 m c) (hd t) := by
  funext j x
  show iblk m c 2 t (ix2 j x) = m ((c : Thread nD τ).loc main_arg1) (ix2 _ _)
  blk_ext [iblk, V, idx t]

/-- What every point writes of the queries' gradient. -/
theorem left4 (c : Dev nD) (t : Fin cfg0.N) :
    (outsAt0 m c t.val t.isLt).1 = k0_pay7 (bq m c t) (bk m c t) (bv m c t) (bd m c t) := by
  by_cases h : t.val % 16 = 0
  · rw [outsAt0_A m c t h]
    dsimp only
    rw [MemBody.dq_A]
  · rw [outsAt0_B m c t h]
    dsimp only
    rw [MemBody.dq_B]

/-- What a point adds to the keys' gradient and to the values'. -/
def addK (c : Dev nD) (t : Fin cfg0.N) (y : S256x128.Idx) : EReal :=
  (∑ r, slope (MemSpec.head (a0 m c) (hd t) (pos t r)) (MemSpec.keys (a1 m c) (hd t)) (MemSpec.vals (a1 m c) (hd t))
    (MemSpec.head (a2 m c) (hd t) (pos t r)) (y 0) * MemSpec.head (a0 m c) (hd t) (pos t r) (y 1)) * scale

def addV (c : Dev nD) (t : Fin cfg0.N) (y : S256x128.Idx) : EReal :=
  ∑ r, pr (MemSpec.head (a0 m c) (hd t) (pos t r)) (MemSpec.keys (a1 m c) (hd t)) (y 0)
    * MemSpec.head (a2 m c) (hd t) (pos t r) (y 1)

theorem stepK (c : Dev nD) (t : Fin cfg0.N) (prev : Vec Ideal S256x128 .f32) (y : S256x128.Idx) :
    k0_pay1 (bq m c t) (k0_pay6 (bq m c t) (bk m c t) (bv m c t) (bd m c t)) prev y = prev y + addK m c t y := by
  obtain ⟨j, x, rfl⟩ : ∃ j x, y = ix2 j x := ⟨y 0, y 1, eq_ix2 y⟩
  rw [MemPoint.dk]
  simp only [bq_row, bk_places, bv_places, bd_row]
  unfold addK
  congr 2
  refine Finset.sum_congr rfl fun r _ => ?_
  congr 1
  exact congrFun (bq_row m c t r) x

theorem stepV (c : Dev nD) (t : Fin cfg0.N) (prev : Vec Ideal S256x128 .f32) (y : S256x128.Idx) :
    k0_pay2 (bd m c t) (k0_pay5 (bq m c t) (bk m c t)) prev y = prev y + addV m c t y := by
  obtain ⟨j, x, rfl⟩ : ∃ j x, y = ix2 j x := ⟨y 0, y 1, eq_ix2 y⟩
  rw [MemPoint.dv]
  simp only [bq_row, bk_places]
  unfold addV
  congr 1
  refine Finset.sum_congr rfl fun r _ => ?_
  congr 1
  exact congrFun (bd_row m c t r) x

/-- After the last of a head's points the keys' gradient is the sum of what its points added. -/
theorem left5 (c : Dev nD) (t : Fin cfg0.N) (ht : t.val % 16 = 16 - 1) (y : S256x128.Idx) :
    (outsAt0 m c t.val t.isLt).2.1 y
      = 0 + ∑ s : Fin 16, addK m c ⟨16 * (t.val / 16) + s.val, Pipeline.run_point_lt_of_flush t ht s⟩ y :=
  Pipeline.eq_sum_fin_of_reset_step_apply_of_flush (M := EReal) (fun n h => (outsAt0 m c n h).2.1) 16 (fun _ => 0) (addK m c)
    (fun t h y => by
      show (outsAt0 m c t.val t.isLt).2.1 y = _
      rw [outsAt0_A m c t h]
      dsimp only
      rw [MemBody.dk_A]
      refine (stepK m c t _ y).trans ?_
      rw [eq_ix2 y]
      exact congrArg (· + _) (MemPoint.zero_dk _ _))
    (fun t h y => by
      show (outsAt0 m c t.val t.isLt).2.1 y = _
      rw [outsAt0_B m c t h]
      dsimp only
      rw [MemBody.dk_B]
      exact stepK m c t _ y)
    t ht y

/-- And the values' gradient likewise. -/
theorem left6 (c : Dev nD) (t : Fin cfg0.N) (ht : t.val % 16 = 16 - 1) (y : S256x128.Idx) :
    (outsAt0 m c t.val t.isLt).2.2 y
      = 0 + ∑ s : Fin 16, addV m c ⟨16 * (t.val / 16) + s.val, Pipeline.run_point_lt_of_flush t ht s⟩ y :=
  Pipeline.eq_sum_fin_of_reset_step_apply_of_flush (M := EReal) (fun n h => (outsAt0 m c n h).2.2) 16 (fun _ => 0) (addV m c)
    (fun t h y => by
      show (outsAt0 m c t.val t.isLt).2.2 y = _
      rw [outsAt0_A m c t h]
      dsimp only
      rw [MemBody.dv_A]
      refine (stepV m c t _ y).trans ?_
      rw [eq_ix2 y]
      exact congrArg (· + _) (MemPoint.zero_dv _ _))
    (fun t h y => by
      show (outsAt0 m c t.val t.isLt).2.2 y = _
      rw [outsAt0_B m c t h]
      dsimp only
      rw [MemBody.dv_B]
      exact stepV m c t _ y)
    t ht y

/-- Where a point's block of the queries' gradient sits. -/
theorem place4 (t : Fin cfg0.N) (r : Fin 512) (x : Fin 128) :
    MemSpec.colHead (((cfg0.win 4).blk t).view.emb (ix2 r x) 1) = hd t ∧ ((cfg0.win 4).blk t).view.emb (ix2 r x) 0 = pos t r
      ∧ MemSpec.colIn (((cfg0.win 4).blk t).view.emb (ix2 r x) 1) = x := by
  have := lt64 t
  have := x.isLt
  refine ⟨Fin.ext ?_, Fin.ext ?_, Fin.ext ?_⟩
  · show (((cfg0.win 4).blk t).view.emb (ix2 r x) 1).val / 128 = t.val / 16
    blk_simp [idx t]
    omega
  · show (((cfg0.win 4).blk t).view.emb (ix2 r x) 0).val = 512 * (t.val % 16) + r.val
    blk_simp [idx t]
    omega
  · show (((cfg0.win 4).blk t).view.emb (ix2 r x) 1).val % 128 = x.val
    blk_simp [idx t]
    omega

/-- Where a point's block of the keys' gradient sits. -/
theorem place5 (t : Fin cfg0.N) (j : Fin 256) (x : Fin 128) :
    MemSpec.colHead (((cfg0.win 5).blk t).view.emb (ix2 j x) 1) = hd t ∧ ((cfg0.win 5).blk t).view.emb (ix2 j x) 0 = j
      ∧ MemSpec.colIn (((cfg0.win 5).blk t).view.emb (ix2 j x) 1) = x := by
  have := lt64 t
  have := x.isLt
  refine ⟨Fin.ext ?_, Fin.ext ?_, Fin.ext ?_⟩
  · show (((cfg0.win 5).blk t).view.emb (ix2 j x) 1).val / 128 = t.val / 16
    blk_simp [idx t]
    omega
  · show (((cfg0.win 5).blk t).view.emb (ix2 j x) 0).val = j.val
    blk_simp [idx t]
  · show (((cfg0.win 5).blk t).view.emb (ix2 j x) 1).val % 128 = x.val
    blk_simp [idx t]
    omega

/-- And the values'. -/
theorem place6 (t : Fin cfg0.N) (j : Fin 256) (x : Fin 128) :
    MemSpec.colHead (((cfg0.win 6).blk t).view.emb (ix2 j x) 1) = hd t ∧ ((cfg0.win 6).blk t).view.emb (ix2 j x) 0 = j
      ∧ MemSpec.colIn (((cfg0.win 6).blk t).view.emb (ix2 j x) 1) = x := by
  have := lt64 t
  have := x.isLt
  refine ⟨Fin.ext ?_, Fin.ext ?_, Fin.ext ?_⟩
  · show (((cfg0.win 6).blk t).view.emb (ix2 j x) 1).val / 128 = t.val / 16
    blk_simp [idx t]
    omega
  · show (((cfg0.win 6).blk t).view.emb (ix2 j x) 0).val = j.val
    blk_simp [idx t]
  · show (((cfg0.win 6).blk t).view.emb (ix2 j x) 1).val % 128 = x.val
    blk_simp [idx t]
    omega

/-- The point that handles head `t / 16`'s tile `s`. -/
theorem hd_tile (t : Fin cfg0.N) (ht : t.val % 16 = 16 - 1) (s : Fin 16) :
    hd ⟨16 * (t.val / 16) + s.val, Pipeline.run_point_lt_of_flush t ht s⟩ = hd t :=
  Fin.ext (show (16 * (t.val / 16) + s.val) / 16 = t.val / 16 by omega)

theorem pos_tile (t : Fin cfg0.N) (ht : t.val % 16 = 16 - 1) (s : Fin 16) (r : Fin 512) :
    pos ⟨16 * (t.val / 16) + s.val, Pipeline.run_point_lt_of_flush t ht s⟩ r = ⟨512 * s.val + r.val, by omega⟩ :=
  Fin.ext (show 512 * ((16 * (t.val / 16) + s.val) % 16) + r.val = 512 * s.val + r.val by omega)

/-- The queries' gradient. -/
theorem final4 (c : Dev nD) : (dats m 0 c).arrAt 4 cfg0.N
    = fun i : S8192x512.Idx => MemSpec.dq (a0 m c) (a2 m c) (a1 m c) (MemSpec.colHead (i 1)) (i 0) (MemSpec.colIn (i 1)) := by
  refine (dats m 0 c).arrAt_eq_of_covers 4 _ (by decide +kernel) fun t _ y => ?_
  blk_simp
  rw [after0_4, left4 m c t]
  obtain ⟨r, x, rfl⟩ : ∃ (r : Fin 512) (x : Fin 128), y = ix2 r x := ⟨y 0, y 1, eq_ix2 y⟩
  refine (MemPoint.dq ..).trans ?_
  obtain ⟨e0, e1, e2⟩ := place4 t r x
  refine Eq.trans ?_ (congr (congr (congrArg _ e0) e1) e2).symm
  rw [bq_row, bd_row, bk_places, bv_places]
  unfold MemSpec.dq
  congr 1
  refine Finset.sum_congr rfl fun j _ => ?_
  congr 1
  exact congrFun (congrFun (bk_places m c t) j) x

/-- The keys' gradient. -/
theorem final5 (c : Dev nD) : (dats m 0 c).arrAt 5 cfg0.N
    = fun i : S256x512.Idx => MemSpec.dk (a0 m c) (a2 m c) (a1 m c) (MemSpec.colHead (i 1)) (i 0) (MemSpec.colIn (i 1)) := by
  refine (dats m 0 c).arrAt_eq_of_covers 5 _ (by decide +kernel) fun t hf y => ?_
  have ht : t.val % 16 = 16 - 1 := (flush0_5 t).mp hf
  blk_simp
  rw [after0_5]
  refine (left5 m c t ht y).trans ?_
  obtain ⟨j, x, rfl⟩ : ∃ (j : Fin 256) (x : Fin 128), y = ix2 j x := ⟨y 0, y 1, eq_ix2 y⟩
  obtain ⟨e0, e1, e2⟩ := place5 t j x
  refine Eq.trans ?_ (congr (congr (congrArg _ e0) e1) e2).symm
  obtain ⟨k, hk, hs⟩ := scale_real
  rw [zero_add]
  unfold addK MemSpec.dk
  simp only [hd_tile t ht, pos_tile t ht]
  rw [hs, ← ExtendedReals.sum_mul _ _ hk]
  congr 1
  exact ExtendedReals.sum_tiles 16 512 8192 rfl
    (fun s => slope (MemSpec.head (a0 m c) (hd t) s) (MemSpec.keys (a1 m c) (hd t)) (MemSpec.vals (a1 m c) (hd t))
      (MemSpec.head (a2 m c) (hd t) s) j * MemSpec.head (a0 m c) (hd t) s x) _

/-- The values' gradient. -/
theorem final6 (c : Dev nD) : (dats m 0 c).arrAt 6 cfg0.N
    = fun i : S256x512.Idx => MemSpec.dv (a0 m c) (a2 m c) (a1 m c) (MemSpec.colHead (i 1)) (i 0) (MemSpec.colIn (i 1)) := by
  refine (dats m 0 c).arrAt_eq_of_covers 6 _ (by decide +kernel) fun t hf y => ?_
  have ht : t.val % 16 = 16 - 1 := (flush0_6 t).mp hf
  blk_simp
  rw [after0_6]
  refine (left6 m c t ht y).trans ?_
  obtain ⟨j, x, rfl⟩ : ∃ (j : Fin 256) (x : Fin 128), y = ix2 j x := ⟨y 0, y 1, eq_ix2 y⟩
  obtain ⟨e0, e1, e2⟩ := place6 t j x
  refine Eq.trans ?_ (congr (congr (congrArg _ e0) e1) e2).symm
  rw [zero_add]
  unfold addV MemSpec.dv
  simp only [hd_tile t ht, pos_tile t ht]
  exact ExtendedReals.sum_tiles 16 512 8192 rfl
    (fun s => pr (MemSpec.head (a0 m c) (hd t) s) (MemSpec.keys (a1 m c) (hd t)) j * MemSpec.head (a2 m c) (hd t) s x) _

end Cert.KernelIdeal.MemArrays

end
-- ==== Proof.MemRef.lean ====
/-
  The reference's three results over the extended reals, cut at the values it names (exponentials, their sums, the
  cotangents of the weights and of the logits) and read at an index.
-/
module

public import proofs.«01_k».proof.Proof.MemSpec
public import proofs.«01_k».proof.Proof.Gen.ReferenceIdeal.Run
public import Idealize.ShloMosaic.Lib.StableHlo.RunHlo

@[expose] public section

set_option maxRecDepth 16384

noncomputable section

namespace Cert.ReferenceIdeal.MemRef

open Cert.ReferenceIdeal Cert.ReferenceIdeal.Gen
open Idealize.ShloMosaic Idealize.SL.Sem Idealize.ShloMosaic.TcCoe
open Cert.Softmax

variable (a0 a2 : FVec Ideal S8192x2048 .f32) (a1 : FVec Ideal S256x1024 .f32)

/-- The queries and the keys, by heads. -/
def Q : FVec Ideal S8192x4x128 .f32 := shapeCast _ (extractStridedSlice S8192x512 ![0, 1536] a0 slices_S8192x2048_S8192x512_0_1536) shapeCasts_S8192x512_S8192x4x128
def K : FVec Ideal S256x4x128 .f32 := shapeCast _ (extractStridedSlice S256x512 ![0, 0] a1 slices_S256x1024_S256x512_0_0) shapeCasts_S256x512_S256x4x128
def V : FVec Ideal S256x4x128 .f32 := shapeCast _ (extractStridedSlice S256x512 ![0, 512] a1 slices_S256x1024_S256x512_0_512) shapeCasts_S256x512_S256x4x128

/-- The cotangent, by heads. -/
def D : FVec Ideal S4x128x8192 .f32 := transpose S4x128x8192 [1, 2, 0] (shapeCast _ (extractStridedSlice S8192x512 ![0, 1536] a2 slices_S8192x2048_S8192x512_0_1536) shapeCasts_S8192x512_S8192x4x128) transposes_S8192x4x128_S4x128x8192_1_2_0

variable (q : FVec Ideal S8192x4x128 .f32) (k v : FVec Ideal S256x4x128 .f32) (d : FVec Ideal S4x128x8192 .f32)

/-- The logits. -/
def L : FVec Ideal S4x8192x256 .f32 :=
  mulf (Host.dotGeneral dot_S8192x4x128_S256x4x128_S4x8192x256_2_2_0_0_1_1 none q k) (broadcastInDim S4x8192x256 ![] bcast_S_S4x8192x256 (constant S_ .f32 0x3DB504F3#32))

variable (l e g ds : FVec Ideal S4x8192x256 .f32) (z : FVec Ideal S4x8192x1 .f32)

/-- A row's greatest logit. -/
def M : FVec Ideal S4x8192 .f32 := Host.reduce FloatOps.maximumf l (constant S_ .f32 0xFF800000#32) reducesTo_S4x8192x256_S4x8192_d2 h_S_

/-- The logits' exponentials, the row's maximum taken off first. -/
def E (mx : FVec Ideal S4x8192 .f32) : FVec Ideal S4x8192x256 .f32 :=
  Host.exp (subf l (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) mx))))

/-- The exponentials' sums. -/
def Z : FVec Ideal S4x8192x1 .f32 :=
  broadcastInDim S4x8192x1 ![0, 1] bcast_S4x8192_S4x8192x1_0_1 (Host.reduceAdd e (constant S_ .f32 0x00000000#32) reducesTo_S4x8192x256_S4x8192_d2 h_S_)

/-- The cotangents of the weights. -/
def G : FVec Ideal S4x8192x256 .f32 := Host.dotGeneral dot_S4x128x8192_S256x4x128_S4x8192x256_1_2_2_0_0_1 none d v

/-- The cotangents of the logits, times the scale. -/
def DS : FVec Ideal S4x8192x256 .f32 :=
  mulf (mulf (addf (Host.divf g (broadcastInDim S4x8192x256 ![0, 1, 2] bcast_S4x8192x1_S4x8192x256_0_1_2 z)) (broadcastInDim S4x8192x256 ![0, 1] bcast_S4x8192_S4x8192x256_0_1 (Host.reduceAdd (Host.negf (shapeCast _ (Host.reduceAdd (mulf (mulf g (broadcastInDim S4x8192x256 ![0, 1, 2] bcast_S4x8192x1_S4x8192x256_0_1_2 (Host.divf (broadcastInDim S4x8192x1 ![] bcast_S_S4x8192x1 (constant S_ .f32 0x3F800000#32)) (mulf z z)))) e) (constant S_ .f32 0x00000000#32) reducesTo_S4x8192x256_S4x8192_d2 h_S_) shapeCasts_S4x8192_S4x8192x1)) (constant S_ .f32 0x00000000#32) reducesTo_S4x8192x1_S4x8192_d2 h_S_))) e) (broadcastInDim S4x8192x256 ![] bcast_S_S4x8192x256 (constant S_ .f32 0x3DB504F3#32))

/-- The three results. -/
def outQ : FVec Ideal S8192x512 .f32 :=
  shapeCast _ (transpose S8192x4x128 [1, 0, 2] (Host.dotGeneral dot_S4x8192x256_S256x4x128_S4x8192x128_2_0_1_2_0_1 none ds k) transposes_S4x8192x128_S8192x4x128_1_0_2) shapeCasts_S8192x4x128_S8192x512
def outK : FVec Ideal S256x512 .f32 :=
  shapeCast _ (transpose S256x4x128 [1, 0, 2] (Host.dotGeneral dot_S4x8192x256_S8192x4x128_S4x256x128_1_0_2_2_0_1 none ds q) transposes_S4x256x128_S256x4x128_1_0_2) shapeCasts_S256x4x128_S256x512
def outV : FVec Ideal S256x512 .f32 :=
  shapeCast _ (transpose S256x4x128 [2, 0, 1] (Host.dotGeneral dot_S4x128x8192_S4x8192x256_S4x128x256_2_1_1_2_0_0 none d (Host.divf e (broadcastInDim S4x8192x256 ![0, 1, 2] bcast_S4x8192x1_S4x8192x256_0_1_2 z))) transposes_S4x128x256_S256x4x128_2_0_1) shapeCasts_S256x4x128_S256x512

variable (m : (ℓ : Loc nD τ sig) → Buf (Elt Ideal) ℓ) (c : Dev nD)

/-- The argument arrays. -/
abbrev A0 : FVec Ideal S8192x2048 .f32 := m ((c : Thread nD τ).loc main_arg0)
abbrev A1 : FVec Ideal S256x1024 .f32 := m ((c : Thread nD τ).loc main_arg1)
abbrev A2 : FVec Ideal S8192x2048 .f32 := m ((c : Thread nD τ).loc main_arg2)

/-- The named values over the argument arrays. -/
abbrev ex : FVec Ideal S4x8192x256 .f32 := E (L (Q a0) (K a1)) (M (L (Q a0) (K a1)))
abbrev sl : FVec Ideal S4x8192x256 .f32 := DS (ex a0 a1) (G (V a1) (D a2)) (Z (ex a0 a1))

theorem res0 : (Value.res_out0 m c : FVec Ideal S8192x512 .f32) = outQ (K (A1 m c)) (sl (A0 m c) (A2 m c) (A1 m c)) := rfl
theorem res1 : (Value.res_out1 m c : FVec Ideal S256x512 .f32) = outK (Q (A0 m c)) (sl (A0 m c) (A2 m c) (A1 m c)) := rfl

theorem Q_at (s : Fin 8192) (h : Fin 4) (x : Fin 128) : Q a0 (ix3 s h x) = MemSpec.head a0 h s x := by
  pointwise [Q]
  rfl
theorem K_at (j : Fin 256) (h : Fin 4) (x : Fin 128) : K a1 (ix3 j h x) = MemSpec.keys a1 h j x := by
  pointwise [K]
  rfl
theorem V_at (j : Fin 256) (h : Fin 4) (x : Fin 128) : V a1 (ix3 j h x) = MemSpec.vals a1 h j x := by
  pointwise [V]
  rfl
theorem D_at (h : Fin 4) (x : Fin 128) (s : Fin 8192) : D a2 (ix3 h x s) = MemSpec.head a2 h s x := by
  pointwise [D]
  rfl
theorem L_at (h : Fin 4) (s : Fin 8192) (j : Fin 256) : L q k (ix3 h s j) = (∑ x, q (ix3 s h x) * k (ix3 j h x)) * scale := by
  pointwise [L]
theorem M_at (h : Fin 4) (s : Fin 8192) : M l (ix2 h s)
    = Finset.univ.fold max (Ideal.ofBits FTy.f32 4286578688#32) fun x => l (ix3 h s x) := by
  pointwise [M]
theorem E_at (mx : FVec Ideal S4x8192 .f32) (h : Fin 4) (s : Fin 8192) (j : Fin 256) : E l mx (ix3 h s j)
    = Ideal.exp (l (ix3 h s j) - mx (ix2 h s)) := by
  pointwise [E]
  rw [neg_inf, max_eq_right bot_le]
theorem Z_at (h : Fin 4) (s : Fin 8192) (u : Fin 1) : Z e (ix3 h s u) = ∑ j, e (ix3 h s j) := by
  pointwise [Z]
theorem G_at (h : Fin 4) (s : Fin 8192) (j : Fin 256) : G v d (ix3 h s j) = ∑ x, d (ix3 h x s) * v (ix3 j h x) := by
  pointwise [G]
theorem DS_at (h : Fin 4) (s : Fin 8192) (j : Fin 256) : DS e g z (ix3 h s j)
    = (Ideal.div (g (ix3 h s j)) (z (ix3 h s 0))
      + ∑ _x : Fin 1, -∑ x, g (ix3 h s x) * Ideal.div 1 (z (ix3 h s 0) * z (ix3 h s 0)) * e (ix3 h s x)) * e (ix3 h s j) * scale := by
  pointwise [DS]
theorem outQ_at (s : Fin 8192) (y : Fin 512) : outQ k ds (ix2 s y)
    = ∑ j, ds (ix3 ⟨y.val / 128, by omega⟩ s j) * k (ix3 j ⟨y.val / 128, by omega⟩ ⟨y.val % 128, by omega⟩) := by
  pointwise [outQ]
theorem outK_at (j : Fin 256) (y : Fin 512) : outK q ds (ix2 j y)
    = ∑ s, ds (ix3 ⟨y.val / 128, by omega⟩ s j) * q (ix3 s ⟨y.val / 128, by omega⟩ ⟨y.val % 128, by omega⟩) := by
  pointwise [outK]
theorem outV_at (j : Fin 256) (y : Fin 512) : outV d e z (ix2 j y)
    = ∑ s, d (ix3 ⟨y.val / 128, by omega⟩ ⟨y.val % 128, by omega⟩ s)
      * Ideal.div (e (ix3 ⟨y.val / 128, by omega⟩ s j)) (z (ix3 ⟨y.val / 128, by omega⟩ s 0)) := by
  pointwise [outV]

/-- The exponentials and their sums over the argument arrays. -/
theorem ex_at (h : Fin 4) (s : Fin 8192) (j : Fin 256) : ex a0 a1 (ix3 h s j) = ew (MemSpec.head a0 h s) (MemSpec.keys a1 h) j := by
  have hl : ∀ x, L (Q a0) (K a1) (ix3 h s x) = logit (MemSpec.head a0 h s) (MemSpec.keys a1 h) x := fun x => by
    rw [L_at]
    simp only [Q_at, K_at]
    rfl
  unfold ex ew
  rw [E_at, M_at, hl]
  simp only [hl]

theorem exZ_at (h : Fin 4) (s : Fin 8192) (u : Fin 1) :
    Z (ex a0 a1) (ix3 h s u) = ∑ j, ew (MemSpec.head a0 h s) (MemSpec.keys a1 h) j := by
  rw [Z_at]
  exact Finset.sum_congr rfl fun j _ => ex_at a0 a1 h s j

/-- The cotangents of the weights over them. -/
theorem gr_at (h : Fin 4) (s : Fin 8192) (j : Fin 256) :
    G (V a1) (D a2) (ix3 h s j) = dp (MemSpec.vals a1 h) (MemSpec.head a2 h s) j := by
  rw [G_at]
  simp only [V_at, D_at]
  rfl

/-- And those of the logits. -/
theorem sl_at (hq : ∀ h s x, ∃ r : ℝ, MemSpec.head a0 h s x = (r : EReal)) (hk : ∀ h j x, ∃ r : ℝ, MemSpec.keys a1 h j x = (r : EReal))
    (h : Fin 4) (s : Fin 8192) (j : Fin 256) : sl a0 a2 a1 (ix3 h s j)
      = slope (MemSpec.head a0 h s) (MemSpec.keys a1 h) (MemSpec.vals a1 h) (MemSpec.head a2 h s) j * scale := by
  rw [← slope_eq _ _ _ _ (hq h s) (hk h) j]
  unfold sl
  rw [DS_at]
  simp only [ex_at, exZ_at, gr_at]
  rfl

/-- Taking the scale out of a sum. -/
theorem scale_out {n : ℕ} (f g : Fin n → EReal) : ∑ x, f x * scale * g x = (∑ x, f x * g x) * scale := by
  obtain ⟨r, hr, hs⟩ := scale_real
  rw [hs, ExtendedReals.sum_mul _ _ hr]
  exact Finset.sum_congr rfl fun x _ => mul_right_comm ..

/-- The three results, index by index. -/
theorem outQ_eq (hq : ∀ h s x, ∃ r : ℝ, MemSpec.head a0 h s x = (r : EReal)) (hk : ∀ h j x, ∃ r : ℝ, MemSpec.keys a1 h j x = (r : EReal)) :
    outQ (K a1) (sl a0 a2 a1) = fun i : S8192x512.Idx => MemSpec.dq a0 a2 a1 (MemSpec.colHead (i 1)) (i 0) (MemSpec.colIn (i 1)) := by
  funext i
  obtain ⟨s, y, rfl⟩ : ∃ (s : Fin 8192) (y : Fin 512), i = ix2 s y := ⟨i 0, i 1, eq_ix2 i⟩
  rw [outQ_at]
  simp only [sl_at a0 a2 a1 hq hk, K_at]
  exact scale_out _ _

theorem outK_eq (hq : ∀ h s x, ∃ r : ℝ, MemSpec.head a0 h s x = (r : EReal)) (hk : ∀ h j x, ∃ r : ℝ, MemSpec.keys a1 h j x = (r : EReal)) :
    outK (Q a0) (sl a0 a2 a1) = fun i : S256x512.Idx => MemSpec.dk a0 a2 a1 (MemSpec.colHead (i 1)) (i 0) (MemSpec.colIn (i 1)) := by
  funext i
  obtain ⟨j, y, rfl⟩ : ∃ (j : Fin 256) (y : Fin 512), i = ix2 j y := ⟨i 0, i 1, eq_ix2 i⟩
  rw [outK_at]
  simp only [sl_at a0 a2 a1 hq hk, Q_at]
  exact scale_out _ _

theorem outV_eq : outV (D a2) (ex a0 a1) (Z (ex a0 a1))
    = fun i : S256x512.Idx => MemSpec.dv a0 a2 a1 (MemSpec.colHead (i 1)) (i 0) (MemSpec.colIn (i 1)) := by
  funext i
  obtain ⟨j, y, rfl⟩ : ∃ (j : Fin 256) (y : Fin 512), i = ix2 j y := ⟨i 0, i 1, eq_ix2 i⟩
  rw [outV_at]
  simp only [ex_at, exZ_at, D_at]
  exact Finset.sum_congr rfl fun s _ => mul_comm _ _

/-- The run, with the results at their index forms. -/
theorem run (ρ : Dev nD → PrngReg)
    (hq : ∀ c h s x, ∃ r : ℝ, MemSpec.head (A0 m c) h s x = (r : EReal)) (hk : ∀ c h j x, ∃ r : ℝ, MemSpec.keys (A1 m c) h j x = (r : EReal)) :
    θ_run defs (onTc (τ := τ) (main (F := Ideal))) ⟨m, fun _ => 0, ρ⟩ fun r => ∀ c : Dev nD,
      r.2.mem ((c.tc : Thread nD τ).loc main_v64)
          = (fun i : S8192x512.Idx => MemSpec.dq (A0 m c) (A2 m c) (A1 m c) (MemSpec.colHead (i 1)) (i 0) (MemSpec.colIn (i 1)))
      ∧ r.2.mem ((c.tc : Thread nD τ).loc main_v65)
          = (fun i : S256x512.Idx => MemSpec.dk (A0 m c) (A2 m c) (A1 m c) (MemSpec.colHead (i 1)) (i 0) (MemSpec.colIn (i 1)))
      ∧ r.2.mem ((c.tc : Thread nD τ).loc main_v66)
          = (fun i : S256x512.Idx => MemSpec.dv (A0 m c) (A2 m c) (A1 m c) (MemSpec.colHead (i 1)) (i 0) (MemSpec.colIn (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m ρ) fun _ h c =>
    ⟨(h c).1.trans ((res0 m c).trans (outQ_eq _ _ _ (hq c) (hk c))),
      (h c).2.1.trans ((res1 m c).trans (outK_eq _ _ _ (hq c) (hk c))),
      (h c).2.2.1.trans (outV_eq (A0 m c) (A2 m c) (A1 m c)), (h c).2.2.2⟩

end Cert.ReferenceIdeal.MemRef

end
-- ==== Proof.lean ====
/-
  The assembly: the frames, the idealization, and the value claim of each call, the kernel's run and the reference's
  brought to one formula over the argument arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Ddown
public import proofs.«01_k».proof.Proof.Dwdown
public import proofs.«01_k».proof.Proof.Dwup
public import proofs.«01_k».proof.Proof.Dup
public import proofs.«01_k».proof.Proof.Up
public import proofs.«01_k».proof.Proof.Down
public import proofs.«01_k».proof.Proof.Out
public import proofs.«01_k».proof.Proof.OutDproj
public import proofs.«01_k».proof.Proof.OutDw
public import proofs.«01_k».proof.Proof.S5In
public import proofs.«01_k».proof.Proof.GdnIn
public import proofs.«01_k».proof.Proof.FoxIn
public import proofs.«01_k».proof.Proof.S5Dwin
public import proofs.«01_k».proof.Proof.S5Da
public import proofs.«01_k».proof.Proof.GdnDw
public import proofs.«01_k».proof.Proof.GdnDa
public import proofs.«01_k».proof.Proof.FoxDw
public import proofs.«01_k».proof.Proof.FoxDa
public import proofs.«01_k».proof.Proof.S5Glu
public import proofs.«01_k».proof.Proof.S5Dwglu
public import proofs.«01_k».proof.Proof.Gen.Kernel22
public import proofs.«01_k».proof.Proof.Gen.Kernel22Ideal
public import proofs.«01_k».proof.Proof.Gen.Kernel22.Flash
public import proofs.«01_k».proof.Proof.Gen.Kernel22Ideal.Flash
public import proofs.«01_k».proof.Proof.Gen.Reference22Ideal.Run
public import proofs.«01_k».proof.Proof.RowClaims
public import proofs.«01_k».proof.Proof.Finite
public import proofs.«01_k».proof.Proof.MemArrays
public import proofs.«01_k».proof.Proof.MemRef
public import Idealize.ShloMosaic.Lib.Quiescent
public import Idealize.ShloMosaic.Adequacy
public import Idealize.ShloMosaic.Init

@[expose] public section

noncomputable section

namespace Cert.Proof

open Idealize.ShloMosaic Idealize.SL.Sem

/-! ## The memory read's gradient -/

/-- The reference's frame: no operation writes an argument, and it declares no semaphore. -/
theorem frame_ReferenceIdeal : Cert.quiescent_ReferenceIdeal := fun m ρ _ =>
  θ_run_mono (Cert.ReferenceIdeal.Value.run (F := Ideal) m ρ) fun r h =>
    ⟨fun c => (h c).2.2.2, sem_eq_zero_of_no_sems (by decide) r.2⟩

/-- The kernel's results and the reference's are one formula over the argument arrays. -/
theorem mem_value : Cert.algebraic_KernelIdeal_ReferenceIdeal_pre_finite := by
  intro m g m' g' hpre hagree
  have e0 : ∀ c, Cert.ReferenceIdeal.MemRef.A0 m' c = Cert.KernelIdeal.MemArrays.a0 m c := fun c => (hagree c).1
  have e1 : ∀ c, Cert.ReferenceIdeal.MemRef.A1 m' c = Cert.KernelIdeal.MemArrays.a1 m c := fun c => (hagree c).2.1
  have e2 : ∀ c, Cert.ReferenceIdeal.MemRef.A2 m' c = Cert.KernelIdeal.MemArrays.a2 m c := fun c => (hagree c).2.2
  have hr := fun c => Cert.Finite.reals _ _ _ (hpre c)
  refine ⟨_, _, _, θ_run_mono (Cert.KernelIdeal.Value.run_blocks m g) fun r h c =>
      ⟨(h c).1.trans (Cert.KernelIdeal.MemArrays.final4 m c), (h c).2.1.trans (Cert.KernelIdeal.MemArrays.final5 m c),
        (h c).2.2.1.trans (Cert.KernelIdeal.MemArrays.final6 m c), (h c).2.2.2⟩,
    θ_run_mono (Cert.ReferenceIdeal.MemRef.run m' g' ?_ ?_) fun r h c => ?_⟩
  · exact fun c => by rw [e0]; exact (hr c).1
  · exact fun c => by rw [e1]; exact (hr c).2
  · have := h c
    rw [e0, e1, e2] at this
    exact this

/-! ## The products, a call each -/

theorem frame_Reference2Ideal : Cert.quiescent_Reference2Ideal := fun m ρ _ =>
  θ_run_mono (Cert.Reference2Ideal.Value.run (F := Ideal) m ρ) fun r h =>
    ⟨fun c => (h c).2, sem_eq_zero_of_no_sems (by decide) r.2⟩

/-- The gradient of the squared-ReLU block at its first product. -/
theorem value2 : Cert.algebraic_Kernel2Ideal_Reference2Ideal := by
  intro m g m' g' _ hagree
  refine ⟨_, θ_run_mono (Cert.Kernel2Ideal.Value.run_blocks m g) fun r h c => ⟨(h c).1.trans (Cert.Kernel2Ideal.Ddown.final m c), (h c).2⟩,
    θ_run_mono (Cert.Reference2Ideal.Value.run m' g') fun r h c => ⟨(h c).1.trans ?_, (h c).2⟩⟩
  obtain ⟨e0, e1, e2, e3⟩ := hagree c
  rw [e0, e1, e2, e3]
  all_goals rfl

theorem frame_Reference3Ideal : Cert.quiescent_Reference3Ideal := fun m ρ _ =>
  θ_run_mono (Cert.Reference3Ideal.Value.run (F := Ideal) m ρ) fun r h =>
    ⟨fun c => (h c).2, sem_eq_zero_of_no_sems (by decide) r.2⟩

/-- The gradient of the squared-ReLU block at its second weight. -/
theorem value3 : Cert.algebraic_Kernel3Ideal_Reference3Ideal := by
  intro m g m' g' _ hagree
  refine ⟨_, θ_run_mono (Cert.Kernel3Ideal.Value.run_blocks m g) fun r h c => ⟨(h c).1.trans (Cert.Kernel3Ideal.Dwdown.final m c), (h c).2⟩,
    θ_run_mono (Cert.Reference3Ideal.Value.run m' g') fun r h c => ⟨(h c).1.trans ?_, (h c).2⟩⟩
  obtain ⟨e0, e1, e2⟩ := hagree c
  rw [e0, e1, e2]
  all_goals rfl

theorem frame_Reference4Ideal : Cert.quiescent_Reference4Ideal := fun m ρ _ =>
  θ_run_mono (Cert.Reference4Ideal.Value.run (F := Ideal) m ρ) fun r h =>
    ⟨fun c => (h c).2, sem_eq_zero_of_no_sems (by decide) r.2⟩

/-- The gradient of the squared-ReLU block at its first weight. -/
theorem value4 : Cert.algebraic_Kernel4Ideal_Reference4Ideal := by
  intro m g m' g' _ hagree
  refine ⟨_, θ_run_mono (Cert.Kernel4Ideal.Value.run_blocks m g) fun r h c => ⟨(h c).1.trans (Cert.Kernel4Ideal.Dwup.final m c), (h c).2⟩,
    θ_run_mono (Cert.Reference4Ideal.Value.run m' g') fun r h c => ⟨(h c).1.trans ?_, (h c).2⟩⟩
  obtain ⟨e0, e1⟩ := hagree c
  rw [e0, e1]
  all_goals rfl

theorem frame_Reference5Ideal : Cert.quiescent_Reference5Ideal := fun m ρ _ =>
  θ_run_mono (Cert.Reference5Ideal.Value.run (F := Ideal) m ρ) fun r h =>
    ⟨fun c => (h c).2, sem_eq_zero_of_no_sems (by decide) r.2⟩

/-- The gradient of the squared-ReLU block at its input. -/
theorem value5 : Cert.algebraic_Kernel5Ideal_Reference5Ideal := by
  intro m g m' g' _ hagree
  refine ⟨_, θ_run_mono (Cert.Kernel5Ideal.Value.run_blocks m g) fun r h c => ⟨(h c).1.trans (Cert.Kernel5Ideal.Dup.final m c), (h c).2⟩,
    θ_run_mono (Cert.Reference5Ideal.Value.run m' g') fun r h c => ⟨(h c).1.trans ?_, (h c).2⟩⟩
  obtain ⟨e0, e1⟩ := hagree c
  rw [e0, e1]
  all_goals rfl

theorem frame_Reference6Ideal : Cert.quiescent_Reference6Ideal := fun m ρ _ =>
  θ_run_mono (Cert.Reference6Ideal.Value.run (F := Ideal) m ρ) fun r h =>
    ⟨fun c => (h c).2, sem_eq_zero_of_no_sems (by decide) r.2⟩

/-- The squared ReLU of the block's first product. -/
theorem value6 : Cert.algebraic_Kernel6Ideal_Reference6Ideal := by
  intro m g m' g' _ hagree
  refine ⟨_, θ_run_mono (Cert.Kernel6Ideal.Value.run_blocks m g) fun r h c => ⟨(h c).1.trans (Cert.Kernel6Ideal.Up.final m c), (h c).2⟩,
    θ_run_mono (Cert.Reference6Ideal.Value.run m' g') fun r h c => ⟨(h c).1.trans ?_, (h c).2⟩⟩
  obtain ⟨e0, e1⟩ := hagree c
  rw [e0, e1]
  all_goals rfl

theorem frame_Reference7Ideal : Cert.quiescent_Reference7Ideal := fun m ρ _ =>
  θ_run_mono (Cert.Reference7Ideal.Value.run (F := Ideal) m ρ) fun r h =>
    ⟨fun c => (h c).2, sem_eq_zero_of_no_sems (by decide) r.2⟩

/-- The block's second product and its residual sum. -/
theorem value7 : Cert.algebraic_Kernel7Ideal_Reference7Ideal := by
  intro m g m' g' _ hagree
  refine ⟨_, θ_run_mono (Cert.Kernel7Ideal.Value.run_blocks m g) fun r h c => ⟨(h c).1.trans (Cert.Kernel7Ideal.Down.final m c), (h c).2⟩,
    θ_run_mono (Cert.Reference7Ideal.Value.run m' g') fun r h c => ⟨(h c).1.trans ?_, (h c).2⟩⟩
  obtain ⟨e0, e1, e2⟩ := hagree c
  rw [e0, e1, e2]
  all_goals rfl

theorem frame_Reference8Ideal : Cert.quiescent_Reference8Ideal := fun m ρ _ =>
  θ_run_mono (Cert.Reference8Ideal.Value.run (F := Ideal) m ρ) fun r h =>
    ⟨fun c => (h c).2, sem_eq_zero_of_no_sems (by decide) r.2⟩

/-- The projection out of a layer's mixer and memory read, and its residual sum. -/
theorem value8 : Cert.algebraic_Kernel8Ideal_Reference8Ideal := by
  intro m g m' g' _ hagree
  refine ⟨_, θ_run_mono (Cert.Kernel8Ideal.Value.run_blocks m g) fun r h c => ⟨(h c).1.trans (Cert.Kernel8Ideal.Out.final m c), (h c).2⟩,
    θ_run_mono (Cert.Reference8Ideal.Value.run m' g') fun r h c => ⟨(h c).1.trans ?_, (h c).2⟩⟩
  obtain ⟨e0, e1, e2, e3⟩ := hagree c
  rw [e0, e1, e2, e3]
  all_goals rfl

theorem frame_Reference9Ideal : Cert.quiescent_Reference9Ideal := fun m ρ _ =>
  θ_run_mono (Cert.Reference9Ideal.Value.run (F := Ideal) m ρ) fun r h =>
    ⟨fun c => (h c).2, sem_eq_zero_of_no_sems (by decide) r.2⟩

/-- The gradient of the projection out at its argument. -/
theorem value9 : Cert.algebraic_Kernel9Ideal_Reference9Ideal := by
  intro m g m' g' _ hagree
  refine ⟨_, θ_run_mono (Cert.Kernel9Ideal.Value.run_blocks m g) fun r h c => ⟨(h c).1.trans (Cert.Kernel9Ideal.OutDproj.final m c), (h c).2⟩,
    θ_run_mono (Cert.Reference9Ideal.Value.run m' g') fun r h c => ⟨(h c).1.trans ?_, (h c).2⟩⟩
  obtain ⟨e0, e1⟩ := hagree c
  rw [e0, e1]
  all_goals rfl

theorem frame_Reference10Ideal : Cert.quiescent_Reference10Ideal := fun m ρ _ =>
  θ_run_mono (Cert.Reference10Ideal.Value.run (F := Ideal) m ρ) fun r h =>
    ⟨fun c => (h c).2, sem_eq_zero_of_no_sems (by decide) r.2⟩

/-- The gradient of the projection out at its weight. -/
theorem value10 : Cert.algebraic_Kernel10Ideal_Reference10Ideal := by
  intro m g m' g' _ hagree
  refine ⟨_, θ_run_mono (Cert.Kernel10Ideal.Value.run_blocks m g) fun r h c => ⟨(h c).1.trans (Cert.Kernel10Ideal.OutDw.final m c), (h c).2⟩,
    θ_run_mono (Cert.Reference10Ideal.Value.run m' g') fun r h c => ⟨(h c).1.trans ?_, (h c).2⟩⟩
  obtain ⟨e0, e1, e2⟩ := hagree c
  rw [e0, e1, e2]
  all_goals rfl

theorem frame_Reference11Ideal : Cert.quiescent_Reference11Ideal := fun m ρ _ =>
  θ_run_mono (Cert.Reference11Ideal.Value.run (F := Ideal) m ρ) fun r h =>
    ⟨fun c => (h c).2, sem_eq_zero_of_no_sems (by decide) r.2⟩

/-- The projection into the S5 mixer. -/
theorem value11 : Cert.algebraic_Kernel11Ideal_Reference11Ideal := by
  intro m g m' g' _ hagree
  refine ⟨_, θ_run_mono (Cert.Kernel11Ideal.Value.run_blocks m g) fun r h c => ⟨(h c).1.trans (Cert.Kernel11Ideal.S5In.final m c), (h c).2⟩,
    θ_run_mono (Cert.Reference11Ideal.Value.run m' g') fun r h c => ⟨(h c).1.trans ?_, (h c).2⟩⟩
  obtain ⟨e0, e1⟩ := hagree c
  rw [e0, e1]
  all_goals rfl

theorem frame_Reference12Ideal : Cert.quiescent_Reference12Ideal := fun m ρ _ =>
  θ_run_mono (Cert.Reference12Ideal.Value.run (F := Ideal) m ρ) fun r h =>
    ⟨fun c => (h c).2, sem_eq_zero_of_no_sems (by decide) r.2⟩

/-- The projection into the gated delta-rule mixer. -/
theorem value12 : Cert.algebraic_Kernel12Ideal_Reference12Ideal := by
  intro m g m' g' _ hagree
  refine ⟨_, θ_run_mono (Cert.Kernel12Ideal.Value.run_blocks m g) fun r h c => ⟨(h c).1.trans (Cert.Kernel12Ideal.GdnIn.final m c), (h c).2⟩,
    θ_run_mono (Cert.Reference12Ideal.Value.run m' g') fun r h c => ⟨(h c).1.trans ?_, (h c).2⟩⟩
  obtain ⟨e0, e1⟩ := hagree c
  rw [e0, e1]
  all_goals rfl

theorem frame_Reference13Ideal : Cert.quiescent_Reference13Ideal := fun m ρ _ =>
  θ_run_mono (Cert.Reference13Ideal.Value.run (F := Ideal) m ρ) fun r h =>
    ⟨fun c => (h c).2, sem_eq_zero_of_no_sems (by decide) r.2⟩

/-- The projection into the forgetting attention. -/
theorem value13 : Cert.algebraic_Kernel13Ideal_Reference13Ideal := by
  intro m g m' g' _ hagree
  refine ⟨_, θ_run_mono (Cert.Kernel13Ideal.Value.run_blocks m g) fun r h c => ⟨(h c).1.trans (Cert.Kernel13Ideal.FoxIn.final m c), (h c).2⟩,
    θ_run_mono (Cert.Reference13Ideal.Value.run m' g') fun r h c => ⟨(h c).1.trans ?_, (h c).2⟩⟩
  obtain ⟨e0, e1⟩ := hagree c
  rw [e0, e1]
  all_goals rfl

theorem frame_Reference14Ideal : Cert.quiescent_Reference14Ideal := fun m ρ _ =>
  θ_run_mono (Cert.Reference14Ideal.Value.run (F := Ideal) m ρ) fun r h =>
    ⟨fun c => (h c).2, sem_eq_zero_of_no_sems (by decide) r.2⟩

/-- The gradient of the projection into the S5 mixer at its weight. -/
theorem value14 : Cert.algebraic_Kernel14Ideal_Reference14Ideal := by
  intro m g m' g' _ hagree
  refine ⟨_, θ_run_mono (Cert.Kernel14Ideal.Value.run_blocks m g) fun r h c => ⟨(h c).1.trans (Cert.Kernel14Ideal.S5Dwin.final m c), (h c).2⟩,
    θ_run_mono (Cert.Reference14Ideal.Value.run m' g') fun r h c => ⟨(h c).1.trans ?_, (h c).2⟩⟩
  obtain ⟨e0, e1, e2⟩ := hagree c
  rw [e0, e1, e2]
  all_goals rfl

theorem frame_Reference15Ideal : Cert.quiescent_Reference15Ideal := fun m ρ _ =>
  θ_run_mono (Cert.Reference15Ideal.Value.run (F := Ideal) m ρ) fun r h =>
    ⟨fun c => (h c).2, sem_eq_zero_of_no_sems (by decide) r.2⟩

/-- The same at its argument. -/
theorem value15 : Cert.algebraic_Kernel15Ideal_Reference15Ideal := by
  intro m g m' g' _ hagree
  refine ⟨_, θ_run_mono (Cert.Kernel15Ideal.Value.run_blocks m g) fun r h c => ⟨(h c).1.trans (Cert.Kernel15Ideal.S5Da.final m c), (h c).2⟩,
    θ_run_mono (Cert.Reference15Ideal.Value.run m' g') fun r h c => ⟨(h c).1.trans ?_, (h c).2⟩⟩
  obtain ⟨e0, e1, e2⟩ := hagree c
  rw [e0, e1, e2]
  all_goals rfl

theorem frame_Reference16Ideal : Cert.quiescent_Reference16Ideal := fun m ρ _ =>
  θ_run_mono (Cert.Reference16Ideal.Value.run (F := Ideal) m ρ) fun r h =>
    ⟨fun c => (h c).2, sem_eq_zero_of_no_sems (by decide) r.2⟩

/-- The gradient of the projection into the gated delta-rule mixer at its weight. -/
theorem value16 : Cert.algebraic_Kernel16Ideal_Reference16Ideal := by
  intro m g m' g' _ hagree
  refine ⟨_, θ_run_mono (Cert.Kernel16Ideal.Value.run_blocks m g) fun r h c => ⟨(h c).1.trans (Cert.Kernel16Ideal.GdnDw.final m c), (h c).2⟩,
    θ_run_mono (Cert.Reference16Ideal.Value.run m' g') fun r h c => ⟨(h c).1.trans ?_, (h c).2⟩⟩
  obtain ⟨e0, e1, e2, e3, e4, e5⟩ := hagree c
  rw [e0, e1, e2, e3, e4, e5]
  all_goals rfl

theorem frame_Reference17Ideal : Cert.quiescent_Reference17Ideal := fun m ρ _ =>
  θ_run_mono (Cert.Reference17Ideal.Value.run (F := Ideal) m ρ) fun r h =>
    ⟨fun c => (h c).2, sem_eq_zero_of_no_sems (by decide) r.2⟩

/-- The same at its argument, added to the gates' part. -/
theorem value17 : Cert.algebraic_Kernel17Ideal_Reference17Ideal := by
  intro m g m' g' _ hagree
  refine ⟨_, θ_run_mono (Cert.Kernel17Ideal.Value.run_blocks m g) fun r h c => ⟨(h c).1.trans (Cert.Kernel17Ideal.GdnDa.final m c), (h c).2⟩,
    θ_run_mono (Cert.Reference17Ideal.Value.run m' g') fun r h c => ⟨(h c).1.trans ?_, (h c).2⟩⟩
  obtain ⟨e0, e1, e2, e3, e4, e5, e6⟩ := hagree c
  rw [e0, e1, e2, e3, e4, e5, e6]
  all_goals rfl

theorem frame_Reference18Ideal : Cert.quiescent_Reference18Ideal := fun m ρ _ =>
  θ_run_mono (Cert.Reference18Ideal.Value.run (F := Ideal) m ρ) fun r h =>
    ⟨fun c => (h c).2, sem_eq_zero_of_no_sems (by decide) r.2⟩

/-- The gradient of the projection into the forgetting attention at its weight. -/
theorem value18 : Cert.algebraic_Kernel18Ideal_Reference18Ideal := by
  intro m g m' g' _ hagree
  refine ⟨_, θ_run_mono (Cert.Kernel18Ideal.Value.run_blocks m g) fun r h c => ⟨(h c).1.trans (Cert.Kernel18Ideal.FoxDw.final m c), (h c).2⟩,
    θ_run_mono (Cert.Reference18Ideal.Value.run m' g') fun r h c => ⟨(h c).1.trans ?_, (h c).2⟩⟩
  obtain ⟨e0, e1, e2, e3, e4⟩ := hagree c
  rw [e0, e1, e2, e3, e4]
  all_goals rfl

theorem frame_Reference19Ideal : Cert.quiescent_Reference19Ideal := fun m ρ _ =>
  θ_run_mono (Cert.Reference19Ideal.Value.run (F := Ideal) m ρ) fun r h =>
    ⟨fun c => (h c).2, sem_eq_zero_of_no_sems (by decide) r.2⟩

/-- The same at its argument, added to the gates' part. -/
theorem value19 : Cert.algebraic_Kernel19Ideal_Reference19Ideal := by
  intro m g m' g' _ hagree
  refine ⟨_, θ_run_mono (Cert.Kernel19Ideal.Value.run_blocks m g) fun r h c => ⟨(h c).1.trans (Cert.Kernel19Ideal.FoxDa.final m c), (h c).2⟩,
    θ_run_mono (Cert.Reference19Ideal.Value.run m' g') fun r h c => ⟨(h c).1.trans ?_, (h c).2⟩⟩
  obtain ⟨e0, e1, e2, e3, e4, e5⟩ := hagree c
  rw [e0, e1, e2, e3, e4, e5]
  all_goals rfl

theorem frame_Reference20Ideal : Cert.quiescent_Reference20Ideal := fun m ρ _ =>
  θ_run_mono (Cert.Reference20Ideal.Value.run (F := Ideal) m ρ) fun r h =>
    ⟨fun c => (h c).2.2, sem_eq_zero_of_no_sems (by decide) r.2⟩

/-- The gate of the S5 mixer: its logits and the gated values. -/
theorem value20 : Cert.algebraic_Kernel20Ideal_Reference20Ideal := by
  intro m g m' g' _ hagree
  refine ⟨_, _, θ_run_mono (Cert.Kernel20Ideal.Value.run_blocks m g) fun r h c =>
      ⟨(h c).1.trans (Cert.Kernel20Ideal.S5Glu.finalz m c), (h c).2.1.trans (Cert.Kernel20Ideal.S5Glu.finalm m c), (h c).2.2⟩,
    θ_run_mono (Cert.Reference20Ideal.Value.run m' g') fun r h c => ⟨(h c).1.trans ?_, (h c).2.1.trans ?_, (h c).2.2⟩⟩
  all_goals
    obtain ⟨e0, e1, e2⟩ := hagree c
    rw [e0, e1, e2]
    try rfl

theorem frame_Reference21Ideal : Cert.quiescent_Reference21Ideal := fun m ρ _ =>
  θ_run_mono (Cert.Reference21Ideal.Value.run (F := Ideal) m ρ) fun r h =>
    ⟨fun c => (h c).2, sem_eq_zero_of_no_sems (by decide) r.2⟩

/-- The gradient of the S5 gate at its weight. -/
theorem value21 : Cert.algebraic_Kernel21Ideal_Reference21Ideal := by
  intro m g m' g' _ hagree
  refine ⟨_, θ_run_mono (Cert.Kernel21Ideal.Value.run_blocks m g) fun r h c => ⟨(h c).1.trans (Cert.Kernel21Ideal.S5Dwglu.final m c), (h c).2⟩,
    θ_run_mono (Cert.Reference21Ideal.Value.run m' g') fun r h c => ⟨(h c).1.trans ?_, (h c).2⟩⟩
  obtain ⟨e0, e1⟩ := hagree c
  rw [e0, e1]
  all_goals rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Finite.facts,
    Cert.RowTables.facts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial,
    fun m ρ _ => Cert.Kernel2.Gen.frame m ρ, fun m ρ _ => Cert.Kernel2Ideal.Gen.frame m ρ, frame_Reference2Ideal,
    fun m ρ _ => Cert.Kernel3.Gen.frame m ρ, fun m ρ _ => Cert.Kernel3Ideal.Gen.frame m ρ, frame_Reference3Ideal,
    fun m ρ _ => Cert.Kernel4.Gen.frame m ρ, fun m ρ _ => Cert.Kernel4Ideal.Gen.frame m ρ, frame_Reference4Ideal,
    fun m ρ _ => Cert.Kernel5.Gen.frame m ρ, fun m ρ _ => Cert.Kernel5Ideal.Gen.frame m ρ, frame_Reference5Ideal,
    fun m ρ _ => Cert.Kernel6.Gen.frame m ρ, fun m ρ _ => Cert.Kernel6Ideal.Gen.frame m ρ, frame_Reference6Ideal,
    fun m ρ _ => Cert.Kernel7.Gen.frame m ρ, fun m ρ _ => Cert.Kernel7Ideal.Gen.frame m ρ, frame_Reference7Ideal,
    fun m ρ _ => Cert.Kernel8.Gen.frame m ρ, fun m ρ _ => Cert.Kernel8Ideal.Gen.frame m ρ, frame_Reference8Ideal,
    fun m ρ _ => Cert.Kernel9.Gen.frame m ρ, fun m ρ _ => Cert.Kernel9Ideal.Gen.frame m ρ, frame_Reference9Ideal,
    fun m ρ _ => Cert.Kernel10.Gen.frame m ρ, fun m ρ _ => Cert.Kernel10Ideal.Gen.frame m ρ, frame_Reference10Ideal,
    fun m ρ _ => Cert.Kernel11.Gen.frame m ρ, fun m ρ _ => Cert.Kernel11Ideal.Gen.frame m ρ, frame_Reference11Ideal,
    fun m ρ _ => Cert.Kernel12.Gen.frame m ρ, fun m ρ _ => Cert.Kernel12Ideal.Gen.frame m ρ, frame_Reference12Ideal,
    fun m ρ _ => Cert.Kernel13.Gen.frame m ρ, fun m ρ _ => Cert.Kernel13Ideal.Gen.frame m ρ, frame_Reference13Ideal,
    fun m ρ _ => Cert.Kernel14.Gen.frame m ρ, fun m ρ _ => Cert.Kernel14Ideal.Gen.frame m ρ, frame_Reference14Ideal,
    fun m ρ _ => Cert.Kernel15.Gen.frame m ρ, fun m ρ _ => Cert.Kernel15Ideal.Gen.frame m ρ, frame_Reference15Ideal,
    fun m ρ _ => Cert.Kernel16.Gen.frame m ρ, fun m ρ _ => Cert.Kernel16Ideal.Gen.frame m ρ, frame_Reference16Ideal,
    fun m ρ _ => Cert.Kernel17.Gen.frame m ρ, fun m ρ _ => Cert.Kernel17Ideal.Gen.frame m ρ, frame_Reference17Ideal,
    fun m ρ _ => Cert.Kernel18.Gen.frame m ρ, fun m ρ _ => Cert.Kernel18Ideal.Gen.frame m ρ, frame_Reference18Ideal,
    fun m ρ _ => Cert.Kernel19.Gen.frame m ρ, fun m ρ _ => Cert.Kernel19Ideal.Gen.frame m ρ, frame_Reference19Ideal,
    fun m ρ _ => Cert.Kernel20.Gen.frame m ρ, fun m ρ _ => Cert.Kernel20Ideal.Gen.frame m ρ, frame_Reference20Ideal,
    fun m ρ _ => Cert.Kernel21.Gen.frame m ρ, fun m ρ _ => Cert.Kernel21Ideal.Gen.frame m ρ, frame_Reference21Ideal,
    fun m ρ h => Cert.Kernel22.Gen.frame 0 m ρ (Cert.RowTables.pinned m h), fun m ρ h => Cert.Kernel22Ideal.Gen.frame 0 m ρ (Cert.RowTables.pinned_ideal m h),
    Cert.RowClaims.frame_reference, fun m ρ _ => Cert.RowClaims.frame_reference m ρ trivial,
    trivial, mem_value,
    trivial, value2,
    trivial, value3,
    trivial, value4,
    trivial, value5,
    trivial, value6,
    trivial, value7,
    trivial, value8,
    trivial, value9,
    trivial, value10,
    trivial, value11,
    trivial, value12,
    trivial, value13,
    trivial, value14,
    trivial, value15,
    trivial, value16,
    trivial, value17,
    trivial, value18,
    trivial, value19,
    trivial, value20,
    trivial, value21,
    trivial, Cert.RowClaims.value⟩

end Cert.Proof

end
